-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2.2.2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2.2.2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v49) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v40) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)) →
    ∃ (v0 : (c : Dev Cert.Kernel3Ideal.nD) → Buf (Elt Ideal) ((c.tc : Thread Cert.Kernel3Ideal.nD Cert.Kernel3Ideal.τ).loc Cert.Kernel3Ideal.main_v10)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v10) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v44) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
-- ==== Pre_finite.lean ====
abbrev S1x16384x2x8x64 : Shape := ⟨5, ![1, 16384, 2, 8, 64]⟩
abbrev S1x16384x8x128 : Shape := ⟨4, ![1, 16384, 8, 128]⟩
abbrev S1x256x2x8x64 : Shape := ⟨5, ![1, 256, 2, 8, 64]⟩
abbrev S1x256x8x128 : Shape := ⟨4, ![1, 256, 8, 128]⟩
abbrev S64 : Shape := ⟨1, ![64]⟩
abbrev S128 : Shape := ⟨1, ![128]⟩
abbrev S_ : Shape := ⟨0, ![]⟩

class Facts : Prop where
  bcast_S_S1x16384x2x8x64 : S_.BroadcastsInDim S1x16384x2x8x64 (![] : Fin 0 → Fin S1x16384x2x8x64.rank)
  bcast_S_S1x16384x8x128 : S_.BroadcastsInDim S1x16384x8x128 (![] : Fin 0 → Fin S1x16384x8x128.rank)
  bcast_S_S1x256x2x8x64 : S_.BroadcastsInDim S1x256x2x8x64 (![] : Fin 0 → Fin S1x256x2x8x64.rank)
  bcast_S_S1x256x8x128 : S_.BroadcastsInDim S1x256x8x128 (![] : Fin 0 → Fin S1x256x8x128.rank)
  bcast_S_S64 : S_.BroadcastsInDim S64 (![] : Fin 0 → Fin S64.rank)

variable [Facts]

def fn_part1 {F : FTy → Type} [FloatOps F] (main_arg6 : FVec F S64 .f32) (main_arg7 : FVec F S64 .f32) (main_arg8 : FVec F S64 .f32) (main_v2 : IVec S1x16384x2x8x64 1) (main_v5 : IVec S1x16384x2x8x64 1) (main_v8 : IVec S1x16384x8x128 1) (main_v11 : IVec S1x256x2x8x64 1) (main_v14 : IVec S1x256x8x128 1) (main_v17 : IVec S64 1) : IVec S1x16384x2x8x64 1 × IVec S1x16384x2x8x64 1 × IVec S1x16384x8x128 1 × IVec S1x256x2x8x64 1 × IVec S1x256x8x128 1 × IVec S64 1 × IVec S64 1 × IVec S64 1 × IVec S64 1 :=
  let main_v18 : FVec F S64 .f32 := Host.absf main_arg6
  let main_cst_5 : FVec F S_ .f32 := constant S_ .f32 0x7F800000#32
  let main_v19 : FVec F S64 .f32 := broadcastInDim S64 ![] bcast_S_S64 main_cst_5
  let main_v20 : IVec S64 1 := cmpf .olt main_v18 main_v19
  let main_v21 : FVec F S64 .f32 := Host.absf main_arg7
  let main_cst_6 : FVec F S_ .f32 := constant S_ .f32 0x7F800000#32
  let main_v22 : FVec F S64 .f32 := broadcastInDim S64 ![] bcast_S_S64 main_cst_6
  let main_v23 : IVec S64 1 := cmpf .olt main_v21 main_v22
  let main_v24 : FVec F S64 .f32 := Host.absf main_arg8
  let main_cst_7 : FVec F S_ .f32 := constant S_ .f32 0x7F800000#32
  let main_v25 : FVec F S64 .f32 := broadcastInDim S64 ![] bcast_S_S64 main_cst_7
  let main_v26 : IVec S64 1 := cmpf .olt main_v24 main_v25
  (main_v2, main_v5, main_v8, main_v11, main_v14, main_v17, main_v20, main_v23, main_v26)

def fn {F : FTy → Type} [FloatOps F] (main_arg0 : FVec F S1x16384x2x8x64 .f32) (main_arg1 : FVec F S1x16384x2x8x64 .f32) (main_arg2 : FVec F S1x16384x8x128 .f32) (main_arg3 : FVec F S1x256x2x8x64 .f32) (main_arg4 : FVec F S1x256x8x128 .f32) (main_arg5 : FVec F S64 .f32) (main_arg6 : FVec F S64 .f32) (main_arg7 : FVec F S64 .f32) (main_arg8 : FVec F S64 .f32) (main_arg9 : FVec F S128 .f32) : IVec S1x16384x2x8x64 1 × IVec S1x16384x2x8x64 1 × IVec S1x16384x8x128 1 × IVec S1x256x2x8x64 1 × IVec S1x256x8x128 1 × IVec S64 1 × IVec S64 1 × IVec S64 1 × IVec S64 1 :=
  let main_v0 : FVec F S1x16384x2x8x64 .f32 := Host.absf main_arg0
  let main_cst : FVec F S_ .f32 := constant S_ .f32 0x7F800000#32
  let main_v1 : FVec F S1x16384x2x8x64 .f32 := broadcastInDim S1x16384x2x8x64 ![] bcast_S_S1x16384x2x8x64 main_cst
  let main_v2 : IVec S1x16384x2x8x64 1 := cmpf .olt main_v0 main_v1
  let main_v3 : FVec F S1x16384x2x8x64 .f32 := Host.absf main_arg1
  let main_cst_0 : FVec F S_ .f32 := constant S_ .f32 0x7F800000#32
  let main_v4 : FVec F S1x16384x2x8x64 .f32 := broadcastInDim S1x16384x2x8x64 ![] bcast_S_S1x16384x2x8x64 main_cst_0
  let main_v5 : IVec S1x16384x2x8x64 1 := cmpf .olt main_v3 main_v4
  let main_v6 : FVec F S1x16384x8x128 .f32 := Host.absf main_arg2
  let main_cst_1 : FVec F S_ .f32 := constant S_ .f32 0x7F800000#32
  let main_v7 : FVec F S1x16384x8x128 .f32 := broadcastInDim S1x16384x8x128 ![] bcast_S_S1x16384x8x128 main_cst_1
  let main_v8 : IVec S1x16384x8x128 1 := cmpf .olt main_v6 main_v7
  let main_v9 : FVec F S1x256x2x8x64 .f32 := Host.absf main_arg3
  let main_cst_2 : FVec F S_ .f32 := constant S_ .f32 0x7F800000#32
  let main_v10 : FVec F S1x256x2x8x64 .f32 := broadcastInDim S1x256x2x8x64 ![] bcast_S_S1x256x2x8x64 main_cst_2
  let main_v11 : IVec S1x256x2x8x64 1 := cmpf .olt main_v9 main_v10
  let main_v12 : FVec F S1x256x8x128 .f32 := Host.absf main_arg4
  let main_cst_3 : FVec F S_ .f32 := constant S_ .f32 0x7F800000#32
  let main_v13 : FVec F S1x256x8x128 .f32 := broadcastInDim S1x256x8x128 ![] bcast_S_S1x256x8x128 main_cst_3
  let main_v14 : IVec S1x256x8x128 1 := cmpf .olt main_v12 main_v13
  let main_v15 : FVec F S64 .f32 := Host.absf main_arg5
  let main_cst_4 : FVec F S_ .f32 := constant S_ .f32 0x7F800000#32
  let main_v16 : FVec F S64 .f32 := broadcastInDim S64 ![] bcast_S_S64 main_cst_4
  let main_v17 : IVec S64 1 := cmpf .olt main_v15 main_v16
  fn_part1 (F := F) main_arg6 main_arg7 main_arg8 main_v2 main_v5 main_v8 main_v11 main_v14 main_v17
-- ==== Kernel.lean ====
abbrev S1x16384x2x8x64 : Shape := ⟨5, ![1, 16384, 2, 8, 64]⟩
abbrev S1x16384x8x128 : Shape := ⟨4, ![1, 16384, 8, 128]⟩
abbrev S1x256x2x8x64 : Shape := ⟨5, ![1, 256, 2, 8, 64]⟩
abbrev S1x256x8x128 : Shape := ⟨4, ![1, 256, 8, 128]⟩
abbrev S64 : Shape := ⟨1, ![64]⟩
abbrev S128 : Shape := ⟨1, ![128]⟩
abbrev S_ : Shape := ⟨0, ![]⟩
abbrev S8x128 : Shape := ⟨2, ![8, 128]⟩
abbrev S1x64 : Shape := ⟨2, ![1, 64]⟩
abbrev S4x64 : Shape := ⟨2, ![4, 64]⟩
abbrev S1 : Shape := ⟨1, ![1]⟩
abbrev S2 : Shape := ⟨1, ![2]⟩
abbrev S16384x2x8x64 : Shape := ⟨4, ![16384, 2, 8, 64]⟩
abbrev S16384x8x2x64 : Shape := ⟨4, ![16384, 8, 2, 64]⟩
abbrev S16384x1024 : Shape := ⟨2, ![16384, 1024]⟩
abbrev S256x2x8x64 : Shape := ⟨4, ![256, 2, 8, 64]⟩
abbrev S256x8x2x64 : Shape := ⟨4, ![256, 8, 2, 64]⟩
abbrev S256x1024 : Shape := ⟨2, ![256, 1024]⟩
abbrev S1x128 : Shape := ⟨2, ![1, 128]⟩
abbrev S16384x128 : Shape := ⟨2, ![16384, 128]⟩
abbrev S256x128 : Shape := ⟨2, ![256, 128]⟩
abbrev S2x512x128 : Shape := ⟨3, ![2, 512, 128]⟩
abbrev S16640x128 : Shape := ⟨2, ![16640, 128]⟩
abbrev S144x16640 : Shape := ⟨2, ![144, 16640]⟩
abbrev S2x1280x512 : Shape := ⟨3, ![2, 1280, 512]⟩
abbrev S1x512 : Shape := ⟨2, ![1, 512]⟩
abbrev S144x512 : Shape := ⟨2, ![144, 512]⟩
abbrev S1x1 : Shape := ⟨2, ![1, 1]⟩
abbrev S1280x128 : Shape := ⟨2, ![1280, 128]⟩
abbrev S128x1280 : Shape := ⟨2, ![128, 1280]⟩
abbrev S1024x128 : Shape := ⟨2, ![1024, 128]⟩
abbrev S128x1024 : Shape := ⟨2, ![128, 1024]⟩
abbrev S128x256 : Shape := ⟨2, ![128, 256]⟩
abbrev S16x16640 : Shape := ⟨2, ![16, 16640]⟩
abbrev S1x256x128 : Shape := ⟨3, ![1, 256, 128]⟩
abbrev S1x512x128 : Shape := ⟨3, ![1, 512, 128]⟩
abbrev S512x128 : Shape := ⟨2, ![512, 128]⟩
abbrev S1280x512 : Shape := ⟨2, ![1280, 512]⟩
abbrev S1x1280x512 : Shape := ⟨3, ![1, 1280, 512]⟩
abbrev S512 : Shape := ⟨1, ![512]⟩
abbrev S144x1280 : Shape := ⟨2, ![144, 1280]⟩
abbrev S128x512 : Shape := ⟨2, ![128, 512]⟩
abbrev S256 : Shape := ⟨1, ![256]⟩
abbrev S256x1 : Shape := ⟨2, ![256, 1]⟩

abbrev nBuf : Space → Nat
  | .hbm => 47
  | .vmem => 20
  | .smem => 0
  | _ => 0

abbrev bufTy : (tb : Table) → Fin (tcTables nBuf tb) → BufTy
  | .hbm, ⟨0, _⟩ => ⟨S1x16384x2x8x64, .f32⟩
  | .hbm, ⟨1, _⟩ => ⟨S1x16384x2x8x64, .f32⟩
  | .hbm, ⟨2, _⟩ => ⟨S1x16384x8x128, .f32⟩
  | .hbm, ⟨3, _⟩ => ⟨S1x256x2x8x64, .f32⟩
  | .hbm, ⟨4, _⟩ => ⟨S1x256x8x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S_, .f32⟩
  | .hbm, ⟨11, _⟩ => ⟨S8x128, .f32⟩
  | .hbm, ⟨12, _⟩ => ⟨S1x64, .f32⟩
  | .hbm, ⟨13, _⟩ => ⟨S1x64, .f32⟩
  | .hbm, ⟨14, _⟩ => ⟨S1x64, .f32⟩
  | .hbm, ⟨15, _⟩ => ⟨S1x64, .f32⟩
  | .hbm, ⟨16, _⟩ => ⟨S4x64, .f32⟩
  | .hbm, ⟨17, _⟩ => ⟨S_, .i32⟩
  | .hbm, ⟨18, _⟩ => ⟨S1, .i32⟩
  | .hbm, ⟨19, _⟩ => ⟨S_, .i32⟩
  | .hbm, ⟨20, _⟩ => ⟨S1, .i32⟩
  | .hbm, ⟨21, _⟩ => ⟨S2, .i32⟩
  | .hbm, ⟨22, _⟩ => ⟨S8x128, .f32⟩
  | .hbm, ⟨23, _⟩ => ⟨S_, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S16384x2x8x64, .f32⟩
  | .hbm, ⟨28, _⟩ => ⟨S16384x8x2x64, .f32⟩
  | .hbm, ⟨29, _⟩ => ⟨S16384x1024, .f32⟩
  | .hbm, ⟨30, _⟩ => ⟨S16384x1024, .f32⟩
  | .hbm, ⟨31, _⟩ => ⟨S16384x1024, .f32⟩
  | .hbm, ⟨32, _⟩ => ⟨S16384x1024, .bf16⟩
  | .hbm, ⟨33, _⟩ => ⟨S16384x2x8x64, .f32⟩
  | .hbm, ⟨34, _⟩ => ⟨S16384x8x2x64, .f32⟩
  | .hbm, ⟨35, _⟩ => ⟨S16384x1024, .f32⟩
  | .hbm, ⟨36, _⟩ => ⟨S16384x1024, .bf16⟩
  | .hbm, ⟨37, _⟩ => ⟨S256x2x8x64, .f32⟩
  | .hbm, ⟨38, _⟩ => ⟨S256x8x2x64, .f32⟩
  | .hbm, ⟨39, _⟩ => ⟨S256x1024, .f32⟩
  | .hbm, ⟨40, _⟩ => ⟨S256x1024, .bf16⟩
  | .hbm, ⟨41, _⟩ => ⟨S16384x1024, .f32⟩
  | .hbm, ⟨42, _⟩ => ⟨S16384x1024, .bf16⟩
  | .hbm, ⟨43, _⟩ => ⟨S256x1024, .f32⟩
  | .hbm, ⟨44, _⟩ => ⟨S256x1024, .bf16⟩
  | .hbm, ⟨45, _⟩ => ⟨S1x128, .f32⟩
  | .hbm, ⟨46, _⟩ => ⟨S16384x1024, .bf16⟩
  | .local _ .vmem, ⟨0, _⟩ => ⟨S16384x128, .bf16⟩
  | .local _ .vmem, ⟨1, _⟩ => ⟨S16384x128, .bf16⟩
  | .local _ .vmem, ⟨2, _⟩ => ⟨S8x128, .f32⟩
  | .local _ .vmem, ⟨3, _⟩ => ⟨S1x128, .f32⟩
  | .local _ .vmem, ⟨4, _⟩ => ⟨S16384x128, .bf16⟩
  | .local _ .vmem, ⟨5, _⟩ => ⟨S16384x128, .bf16⟩
  | .local _ .vmem, ⟨6, _⟩ => ⟨S16384x128, .bf16⟩
  | .local _ .vmem, ⟨7, _⟩ => ⟨S16384x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S16384x128, .bf16⟩
  | .local _ .vmem, ⟨13, _⟩ => ⟨S16384x128, .bf16⟩
  | .local _ .vmem, ⟨14, _⟩ => ⟨S2x512x128, .bf16⟩
  | .local _ .vmem, ⟨15, _⟩ => ⟨S16640x128, .bf16⟩
  | .local _ .vmem, ⟨16, _⟩ => ⟨S144x16640, .bf16⟩
  | .local _ .vmem, ⟨17, _⟩ => ⟨S2x1280x512, .f32⟩
  | .local _ .vmem, ⟨18, _⟩ => ⟨S1x512, .f32⟩
  | .local _ .vmem, ⟨19, _⟩ => ⟨S144x512, .f32⟩
  | _, _ => ⟨S1x16384x2x8x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_c : Ref sig .tc := ⟨.hbm, 17, rfl⟩
abbrev main_v6 : Ref sig .tc := ⟨.hbm, 18, rfl⟩
abbrev main_c_0 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_cst_1 : Ref sig .tc := ⟨.hbm, 23, rfl⟩
abbrev main_v10 : Ref sig .tc := ⟨.hbm, 24, rfl⟩
abbrev main_cst_2 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_scratch0 : Ref sig .tc := ⟨.vmem, 14, rfl⟩
abbrev cc0_scratch1 : Ref sig .tc := ⟨.vmem, 15, rfl⟩
abbrev cc0_scratch2 : Ref sig .tc := ⟨.vmem, 16, rfl⟩
abbrev cc0_scratch3 : Ref sig .tc := ⟨.vmem, 17, rfl⟩
abbrev cc0_scratch4 : Ref sig .tc := ⟨.vmem, 18, rfl⟩
abbrev cc0_scratch5 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32 : BitVec 32 := 0#32
  let c32_i32 : BitVec 32 := 32#32
  let v230 : BitVec 32 := Scalar.addi c0_i32 c32_i32
  let c1_i32 : BitVec 32 := 1#32
  ⟨c0_i32, v230, c1_i32⟩
def k0_mult1 (k0_t1 : Fin k0_t1_loop.trips) : BitVec 32 :=
  let c2_i32 : BitVec 32 := 2#32
  let c0_i32 : BitVec 32 := 0#32
  let c1_i32 : BitVec 32 := 1#32
  let arg15 : BitVec 32 := Scf.iv c0_i32 c1_i32 k0_t1
  let v231 : BitVec 32 := Scalar.muli c2_i32 arg15
  let c1_i32_126 : BitVec 32 := 1#32
  let v232 : BitVec 32 := Scalar.addi v231 c1_i32_126
  let c256_i32 : BitVec 32 := 256#32
  let v613 : BitVec 32 := Scalar.muli v232 c256_i32
  v613
def k0_off1 (k0_t1 : Fin k0_t1_loop.trips) : Fin 2 → Nat :=
  let c2_i32 : BitVec 32 := 2#32
  let c0_i32 : BitVec 32 := 0#32
  let c1_i32 : BitVec 32 := 1#32
  let arg15 : BitVec 32 := Scf.iv c0_i32 c1_i32 k0_t1
  let v231 : BitVec 32 := Scalar.muli c2_i32 arg15
  let c1_i32_126 : BitVec 32 := 1#32
  let v232 : BitVec 32 := Scalar.addi v231 c1_i32_126
  let c256_i32 : BitVec 32 := 256#32
  let v613 : BitVec 32 := Scalar.muli v232 c256_i32
  let v614 : BitVec 32 := v613
  let v615 : Index := Scalar.indexCast v614
  let c0_420 : Index := 0#32
  ![v615.toNat, 0]
def k0_mult2 (k0_t1 : Fin k0_t1_loop.trips) : BitVec 32 :=
  let c2_i32 : BitVec 32 := 2#32
  let c0_i32 : BitVec 32 := 0#32
  let c1_i32 : BitVec 32 := 1#32
  let arg15 : BitVec 32 := Scf.iv c0_i32 c1_i32 k0_t1
  let v231 : BitVec 32 := Scalar.muli c2_i32 arg15
  let c256_i32_459 : BitVec 32 := 256#32
  let v686 : BitVec 32 := Scalar.muli v231 c256_i32_459
  v686
def k0_off2 (k0_t1 : Fin k0_t1_loop.trips) : Fin 2 → Nat :=
  let c2_i32 : BitVec 32 := 2#32
  let c0_i32 : BitVec 32 := 0#32
  let c1_i32 : BitVec 32 := 1#32
  let arg15 : BitVec 32 := Scf.iv c0_i32 c1_i32 k0_t1
  let v231 : BitVec 32 := Scalar.muli c2_i32 arg15
  let c256_i32_459 : BitVec 32 := 256#32
  let v686 : BitVec 32 := Scalar.muli v231 c256_i32_459
  let v687 : BitVec 32 := v686
  let v688 : Index := Scalar.indexCast v687
  let c0_460 : Index := 0#32
  ![v688.toNat, 0]
def k0_mult3 (k0_t1 : Fin k0_t1_loop.trips) : BitVec 32 :=
  let c2_i32 : BitVec 32 := 2#32
  let c0_i32 : BitVec 32 := 0#32
  let c1_i32 : BitVec 32 := 1#32
  let arg15 : BitVec 32 := Scf.iv c0_i32 c1_i32 k0_t1
  let v231 : BitVec 32 := Scalar.muli c2_i32 arg15
  let c2_i32_462 : BitVec 32 := 2#32
  let v691 : BitVec 32 := Scalar.addi v231 c2_i32_462
  let c63_i32 : BitVec 32 := 63#32
  let v692 : BitVec 32 := Scalar.minsi v691 c63_i32
  let c256_i32_757 : BitVec 32 := 256#32
  let v1073 : BitVec 32 := Scalar.muli v692 c256_i32_757
  v1073
def k0_off3 (k0_t1 : Fin k0_t1_loop.trips) : Fin 2 → Nat :=
  let c2_i32 : BitVec 32 := 2#32
  let c0_i32 : BitVec 32 := 0#32
  let c1_i32 : BitVec 32 := 1#32
  let arg15 : BitVec 32 := Scf.iv c0_i32 c1_i32 k0_t1
  let v231 : BitVec 32 := Scalar.muli c2_i32 arg15
  let c2_i32_462 : BitVec 32 := 2#32
  let v691 : BitVec 32 := Scalar.addi v231 c2_i32_462
  let c63_i32 : BitVec 32 := 63#32
  let v692 : BitVec 32 := Scalar.minsi v691 c63_i32
  let c256_i32_757 : BitVec 32 := 256#32
  let v1073 : BitVec 32 := Scalar.muli v692 c256_i32_757
  let v1074 : BitVec 32 := v1073
  let v1075 : Index := Scalar.indexCast v1074
  let c0_758 : Index := 0#32
  ![v1075.toNat, 0]
def k0_mult4 (k0_t1 : Fin k0_t1_loop.trips) : BitVec 32 :=
  let c2_i32 : BitVec 32 := 2#32
  let c0_i32 : BitVec 32 := 0#32
  let c1_i32 : BitVec 32 := 1#32
  let arg15 : BitVec 32 := Scf.iv c0_i32 c1_i32 k0_t1
  let v231 : BitVec 32 := Scalar.muli c2_i32 arg15
  let c1_i32_461 : BitVec 32 := 1#32
  let v690 : BitVec 32 := Scalar.addi v231 c1_i32_461
  let c256_i32_797 : BitVec 32 := 256#32
  let v1146 : BitVec 32 := Scalar.muli v690 c256_i32_797
  v1146
def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S16384x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S16384x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16384x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16384x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ReferenceIdeal.lean ====
abbrev S1x16384x2x8x64 : Shape := ⟨5, ![1, 16384, 2, 8, 64]⟩
abbrev S1x16384x8x128 : Shape := ⟨4, ![1, 16384, 8, 128]⟩
abbrev S1x256x2x8x64 : Shape := ⟨5, ![1, 256, 2, 8, 64]⟩
abbrev S1x256x8x128 : Shape := ⟨4, ![1, 256, 8, 128]⟩
abbrev S64 : Shape := ⟨1, ![64]⟩
abbrev S128 : Shape := ⟨1, ![128]⟩
abbrev S_ : Shape := ⟨0, ![]⟩
abbrev S1x16640x2x8x64 : Shape := ⟨5, ![1, 16640, 2, 8, 64]⟩
abbrev S1x16640x8x128 : Shape := ⟨4, ![1, 16640, 8, 128]⟩
abbrev S1x2x8x16384x16640 : Shape := ⟨5, ![1, 2, 8, 16384, 16640]⟩
abbrev S1x2x8x16384 : Shape := ⟨4, ![1, 2, 8, 16384]⟩
abbrev S1x2x8x16384x1 : Shape := ⟨5, ![1, 2, 8, 16384, 1]⟩
abbrev S1x1x8x16384x16640 : Shape := ⟨5, ![1, 1, 8, 16384, 16640]⟩
abbrev S1x8x16384x16640 : Shape := ⟨4, ![1, 8, 16384, 16640]⟩
abbrev S1x8x128x16384 : Shape := ⟨4, ![1, 8, 128, 16384]⟩
abbrev S1x16384x8 : Shape := ⟨3, ![1, 16384, 8]⟩
abbrev S1x16384x8x1 : Shape := ⟨4, ![1, 16384, 8, 1]⟩
abbrev S1x1x1x128 : Shape := ⟨4, ![1, 1, 1, 128]⟩
abbrev S16384x1024 : Shape := ⟨2, ![16384, 1024]⟩

abbrev nBuf : Space → Nat
  | .hbm => 71
  | .vmem => 0
  | .smem => 0
  | _ => 0

abbrev bufTy : (tb : Table) → Fin (tcTables nBuf tb) → BufTy
  | .hbm, ⟨0, _⟩ => ⟨S1x16384x2x8x64, .f32⟩
  | .hbm, ⟨1, _⟩ => ⟨S1x16384x2x8x64, .f32⟩
  | .hbm, ⟨2, _⟩ => ⟨S1x16384x8x128, .f32⟩
  | .hbm, ⟨3, _⟩ => ⟨S1x256x2x8x64, .f32⟩
  | .hbm, ⟨4, _⟩ => ⟨S1x256x8x128, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64, .f32⟩
  | .hbm, ⟨9, _⟩ => ⟨S128, .f32⟩
  | .hbm, ⟨10, _⟩ => ⟨S64, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S64, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .hbm, ⟨20, _⟩ => ⟨S_, .f32⟩
  | .hbm, ⟨21, _⟩ => ⟨S1x16640x2x8x64, .f32⟩
  | .hbm, ⟨22, _⟩ => ⟨S1x16640x8x128, .f32⟩
  | .hbm, ⟨23, _⟩ => ⟨S1x2x8x16384x16640, .f32⟩
  | .hbm, ⟨24, _⟩ => ⟨S_, .f32⟩
  | .hbm, ⟨25, _⟩ => ⟨S1x2x8x16384x16640, .f32⟩
  | .hbm, ⟨26, _⟩ => ⟨S1x2x8x16384x16640, .f32⟩
  | .hbm, ⟨27, _⟩ => ⟨S_, .f32⟩
  | .hbm, ⟨28, _⟩ => ⟨S1x2x8x16384, .f32⟩
  | .hbm, ⟨29, _⟩ => ⟨S_, .f32⟩
  | .hbm, ⟨30, _⟩ => ⟨S1x2x8x16384, .f32⟩
  | .hbm, ⟨31, _⟩ => ⟨S1x2x8x16384, .f32⟩
  | .hbm, ⟨32, _⟩ => ⟨S1x2x8x16384x1, .f32⟩
  | .hbm, ⟨33, _⟩ => ⟨S1x2x8x16384x16640, .f32⟩
  | .hbm, ⟨34, _⟩ => ⟨S1x2x8x16384x16640, .f32⟩
  | .hbm, ⟨35, _⟩ => ⟨S1x2x8x16384x16640, .f32⟩
  | .hbm, ⟨36, _⟩ => ⟨S_, .f32⟩
  | .hbm, ⟨37, _⟩ => ⟨S1x2x8x16384, .f32⟩
  | .hbm, ⟨38, _⟩ => ⟨S1x2x8x16384x1, .f32⟩
  | .hbm, ⟨39, _⟩ => ⟨S1x2x8x16384x16640, .f32⟩
  | .hbm, ⟨40, _⟩ => ⟨S1x2x8x16384x16640, .f32⟩
  | .hbm, ⟨41, _⟩ => ⟨S1x1x8x16384x16640, .f32⟩
  | .hbm, ⟨42, _⟩ => ⟨S1x8x16384x16640, .f32⟩
  | .hbm, ⟨43, _⟩ => ⟨S1x1x8x16384x16640, .f32⟩
  | .hbm, ⟨44, _⟩ => ⟨S1x8x16384x16640, .f32⟩
  | .hbm, ⟨45, _⟩ => ⟨S1x8x16384x16640, .f32⟩
  | .hbm, ⟨46, _⟩ => ⟨S1x8x16384x16640, .f32⟩
  | .hbm, ⟨47, _⟩ => ⟨S1x8x16384x16640, .f32⟩
  | .hbm, ⟨48, _⟩ => ⟨S1x8x128x16384, .f32⟩
  | .hbm, ⟨49, _⟩ => ⟨S1x16384x8x128, .f32⟩
  | .hbm, ⟨50, _⟩ => ⟨S1x16384x8x128, .f32⟩
  | .hbm, ⟨51, _⟩ => ⟨S_, .f32⟩
  | .hbm, ⟨52, _⟩ => ⟨S1x16384x8, .f32⟩
  | .hbm, ⟨53, _⟩ => ⟨S1x16384x8x1, .f32⟩
  | .hbm, ⟨54, _⟩ => ⟨S_, .f32⟩
  | .hbm, ⟨55, _⟩ => ⟨S1x16384x8x1, .f32⟩
  | .hbm, ⟨56, _⟩ => ⟨S1x16384x8x1, .f32⟩
  | .hbm, ⟨57, _⟩ => ⟨S_, .f32⟩
  | .hbm, ⟨58, _⟩ => ⟨S1x16384x8x1, .f32⟩
  | .hbm, ⟨59, _⟩ => ⟨S1x16384x8x1, .f32⟩
  | .hbm, ⟨60, _⟩ => ⟨S1x16384x8x1, .f32⟩
  | .hbm, ⟨61, _⟩ => ⟨S1x16384x8x128, .f32⟩
  | .hbm, ⟨62, _⟩ => ⟨S1x16384x8x128, .f32⟩
  | .hbm, ⟨63, _⟩ => ⟨S1x1x1x128, .f32⟩
  | .hbm, ⟨64, _⟩ => ⟨S1x16384x8x128, .f32⟩
  | .hbm, ⟨65, _⟩ => ⟨S1x16384x8x128, .f32⟩
  | .hbm, ⟨66, _⟩ => ⟨S_, .f32⟩
  | .hbm, ⟨67, _⟩ => ⟨S1x16384x8x128, .f32⟩
  | .hbm, ⟨68, _⟩ => ⟨S1x16384x8x128, .f32⟩
  | .hbm, ⟨69, _⟩ => ⟨S16384x1024, .f32⟩
  | .hbm, ⟨70, _⟩ => ⟨S16384x1024, .bf16⟩
  | _, _ => ⟨S1x16384x2x8x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_cst : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst_0 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_1 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_2 : Ref sig .tc := ⟨.hbm, 24, rfl⟩
abbrev main_v11 : Ref sig .tc := ⟨.hbm, 25, rfl⟩
abbrev main_v12 : Ref sig .tc := ⟨.hbm, 26, rfl⟩
abbrev main_cst_3 : Ref sig .tc := ⟨.hbm, 27, rfl⟩
abbrev main_v13 : Ref sig .tc := ⟨.hbm, 28, rfl⟩
abbrev main_cst_4 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_5 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_cst_7 : Ref sig .tc := ⟨.hbm, 54, rfl⟩
abbrev main_v36 : Ref sig .tc := ⟨.hbm, 55, rfl⟩
abbrev main_v37 : Ref sig .tc := ⟨.hbm, 56, rfl⟩
abbrev main_cst_8 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_cst_9 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩

abbrev nD : Nat := 1
abbrev τ : Topo := Topo.v7x

variable {F : FTy → Type} [FloatOps F]
-- ==== Kernel2.lean ====
abbrev S1x16384x1024 : Shape := ⟨3, ![1, 16384, 1024]⟩
abbrev S1x1x6144 : Shape := ⟨3, ![1, 1, 6144]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x8x6144 : Shape := ⟨3, ![4, 8, 6144]⟩
abbrev S16384x1024 : Shape := ⟨2, ![16384, 1024]⟩
abbrev S1x1024 : Shape := ⟨2, ![1, 1024]⟩
abbrev S1024 : Shape := ⟨1, ![1024]⟩
abbrev S1024x1024 : Shape := ⟨2, ![1024, 1024]⟩
abbrev S1x8x6144 : Shape := ⟨3, ![1, 8, 6144]⟩
abbrev S1x1024x5632 : Shape := ⟨3, ![1, 1024, 5632]⟩
abbrev S1x2816x1024 : Shape := ⟨3, ![1, 2816, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩

abbrev nBuf : Space → Nat
  | .hbm => 13
  | .vmem => 8
  | .smem => 0
  | _ => 0

abbrev bufTy : (tb : Table) → Fin (tcTables nBuf tb) → BufTy
  | .hbm, ⟨0, _⟩ => ⟨S1x16384x1024, .f32⟩
  | .hbm, ⟨1, _⟩ => ⟨S1x1x6144, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S4x8x6144, .f32⟩
  | .hbm, ⟨6, _⟩ => ⟨S4x1024x5632, .bf16⟩
  | .hbm, ⟨7, _⟩ => ⟨S4x2816x1024, .bf16⟩
  | .hbm, ⟨8, _⟩ => ⟨S16384x1024, .f32⟩
  | .hbm, ⟨9, _⟩ => ⟨S1x1024, .f32⟩
  | .hbm, ⟨10, _⟩ => ⟨S1024, .f32⟩
  | .hbm, ⟨11, _⟩ => ⟨S1x1024, .f32⟩
  | .hbm, ⟨12, _⟩ => ⟨S16384x1024, .f32⟩
  | .local _ .vmem, ⟨0, _⟩ => ⟨S1024x1024, .f32⟩
  | .local _ .vmem, ⟨1, _⟩ => ⟨S1024x1024, .f32⟩
  | .local _ .vmem, ⟨2, _⟩ => ⟨S1x8x6144, .f32⟩
  | .local _ .vmem, ⟨3, _⟩ => ⟨S1x1024, .f32⟩
  | .local _ .vmem, ⟨4, _⟩ => ⟨S1x1024x5632, .bf16⟩
  | .local _ .vmem, ⟨5, _⟩ => ⟨S1x2816x1024, .bf16⟩
  | .local _ .vmem, ⟨6, _⟩ => ⟨S1024x1024, .f32⟩
  | .local _ .vmem, ⟨7, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_4 (i : grid0.Coords) : Fin 3 → Nat :=
  let arg0 : BitVec 32 := BitVec.ofNat 32 (i 0).val
  let c3_i32 : BitVec 32 := 3#32
  let c0_i32 : BitVec 32 := 0#32
  let c0_i32_0 : BitVec 32 := 0#32
  let c0_i32_1 : BitVec 32 := 0#32
  ![c3_i32.toNat, c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x8x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024x5632 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2816x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference2Ideal.lean ====
abbrev S1x16384x1024 : Shape := ⟨3, ![1, 16384, 1024]⟩
abbrev S1x1x6144 : Shape := ⟨3, ![1, 1, 6144]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x16384x5632 : Shape := ⟨3, ![1, 16384, 5632]⟩
abbrev S1x16384x2816 : Shape := ⟨3, ![1, 16384, 2816]⟩
abbrev S16384x1024 : Shape := ⟨2, ![16384, 1024]⟩

abbrev nBuf : Space → Nat
  | .hbm => 58
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1x1x6144, .f32⟩
  | .hbm, ⟨2, _⟩ => ⟨S4x1024, .f32⟩
  | .hbm, ⟨3, _⟩ => ⟨S4x1024x5632, .f32⟩
  | .hbm, ⟨4, _⟩ => ⟨S4x2816x1024, .f32⟩
  | .hbm, ⟨5, _⟩ => ⟨S1x1x1024, .f32⟩
  | .hbm, ⟨6, _⟩ => ⟨S1x1x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1024, .f32⟩
  | .hbm, ⟨12, _⟩ => ⟨S1024, .f32⟩
  | .hbm, ⟨13, _⟩ => ⟨S1x16384x1024, .f32⟩
  | .hbm, ⟨14, _⟩ => ⟨S_, .f32⟩
  | .hbm, ⟨15, _⟩ => ⟨S1x16384, .f32⟩
  | .hbm, ⟨16, _⟩ => ⟨S1x16384x1, .f32⟩
  | .hbm, ⟨17, _⟩ => ⟨S_, .f32⟩
  | .hbm, ⟨18, _⟩ => ⟨S1x16384x1, .f32⟩
  | .hbm, ⟨19, _⟩ => ⟨S1x16384x1, .f32⟩
  | .hbm, ⟨20, _⟩ => ⟨S_, .f32⟩
  | .hbm, ⟨21, _⟩ => ⟨S1x16384x1, .f32⟩
  | .hbm, ⟨22, _⟩ => ⟨S1x16384x1, .f32⟩
  | .hbm, ⟨23, _⟩ => ⟨S1x16384x1, .f32⟩
  | .hbm, ⟨24, _⟩ => ⟨S1x16384x1024, .f32⟩
  | .hbm, ⟨25, _⟩ => ⟨S1x16384x1024, .f32⟩
  | .hbm, ⟨26, _⟩ => ⟨S1x1x1024, .f32⟩
  | .hbm, ⟨27, _⟩ => ⟨S1x16384x1024, .f32⟩
  | .hbm, ⟨28, _⟩ => ⟨S1x16384x1024, .f32⟩
  | .hbm, ⟨29, _⟩ => ⟨S_, .f32⟩
  | .hbm, ⟨30, _⟩ => ⟨S1x1x1024, .f32⟩
  | .hbm, ⟨31, _⟩ => ⟨S1x1x1024, .f32⟩
  | .hbm, ⟨32, _⟩ => ⟨S1x16384x1024, .f32⟩
  | .hbm, ⟨33, _⟩ => ⟨S1x16384x1024, .f32⟩
  | .hbm, ⟨34, _⟩ => ⟨S1x16384x1024, .f32⟩
  | .hbm, ⟨35, _⟩ => ⟨S1x16384x1024, .f32⟩
  | .hbm, ⟨36, _⟩ => ⟨S1x1024x5632, .f32⟩
  | .hbm, ⟨37, _⟩ => ⟨S1024x5632, .f32⟩
  | .hbm, ⟨38, _⟩ => ⟨S1x2816x1024, .f32⟩
  | .hbm, ⟨39, _⟩ => ⟨S2816x1024, .f32⟩
  | .hbm, ⟨40, _⟩ => ⟨S1x16384x5632, .f32⟩
  | .hbm, ⟨41, _⟩ => ⟨S1x16384x2816, .f32⟩
  | .hbm, ⟨42, _⟩ => ⟨S1x16384x2816, .f32⟩
  | .hbm, ⟨43, _⟩ => ⟨S1x16384x2816, .f32⟩
  | .hbm, ⟨44, _⟩ => ⟨S1x16384x2816, .f32⟩
  | .hbm, ⟨45, _⟩ => ⟨S_, .f32⟩
  | .hbm, ⟨46, _⟩ => ⟨S1x16384x2816, .f32⟩
  | .hbm, ⟨47, _⟩ => ⟨S1x16384x2816, .f32⟩
  | .hbm, ⟨48, _⟩ => ⟨S_, .f32⟩
  | .hbm, ⟨49, _⟩ => ⟨S1x16384x2816, .f32⟩
  | .hbm, ⟨50, _⟩ => ⟨S1x16384x2816, .f32⟩
  | .hbm, ⟨51, _⟩ => ⟨S1x16384x2816, .f32⟩
  | .hbm, ⟨52, _⟩ => ⟨S1x16384x2816, .f32⟩
  | .hbm, ⟨53, _⟩ => ⟨S1x16384x1024, .f32⟩
  | .hbm, ⟨54, _⟩ => ⟨S1x16384x1024, .f32⟩
  | .hbm, ⟨55, _⟩ => ⟨S1x16384x1024, .f32⟩
  | .hbm, ⟨56, _⟩ => ⟨S1x16384x1024, .f32⟩
  | .hbm, ⟨57, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst : Ref sig .tc := ⟨.hbm, 14, rfl⟩
abbrev main_v9 : Ref sig .tc := ⟨.hbm, 15, rfl⟩
abbrev main_v10 : Ref sig .tc := ⟨.hbm, 16, rfl⟩
abbrev main_cst_0 : Ref sig .tc := ⟨.hbm, 17, rfl⟩
abbrev main_v11 : Ref sig .tc := ⟨.hbm, 18, rfl⟩
abbrev main_v12 : Ref sig .tc := ⟨.hbm, 19, rfl⟩
abbrev main_cst_1 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_2 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_call0_v0 : Ref sig .tc := ⟨.hbm, 43, rfl⟩
abbrev main_call0_v1 : Ref sig .tc := ⟨.hbm, 44, rfl⟩
abbrev main_call0_cst : Ref sig .tc := ⟨.hbm, 45, rfl⟩
abbrev main_call0_v2 : Ref sig .tc := ⟨.hbm, 46, rfl⟩
abbrev main_call0_v3 : Ref sig .tc := ⟨.hbm, 47, rfl⟩
abbrev main_call0_cst_0 : Ref sig .tc := ⟨.hbm, 48, rfl⟩
abbrev main_call0_v4 : Ref sig .tc := ⟨.hbm, 49, rfl⟩
abbrev main_call0_v5 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩

abbrev nD : Nat := 1
abbrev τ : Topo := Topo.v7x

variable {F : FTy → Type} [FloatOps F]
-- ==== Kernel3.lean ====
abbrev S1x16384x1024 : Shape := ⟨3, ![1, 16384, 1024]⟩
abbrev S1024x1024 : Shape := ⟨2, ![1024, 1024]⟩
abbrev S1x1x6144 : Shape := ⟨3, ![1, 1, 6144]⟩
abbrev S4x1024 : Shape := ⟨2, ![4, 1024]⟩
abbrev S4x1024x5632 : Shape := ⟨3, ![4, 1024, 5632]⟩
abbrev S4x2816x1024 : Shape := ⟨3, ![4, 2816, 1024]⟩
abbrev S4x8x6144 : Shape := ⟨3, ![4, 8, 6144]⟩
abbrev S16384x1024 : Shape := ⟨2, ![16384, 1024]⟩
abbrev S1x1024 : Shape := ⟨2, ![1, 1024]⟩
abbrev S1024 : Shape := ⟨1, ![1024]⟩
abbrev S1x8x6144 : Shape := ⟨3, ![1, 8, 6144]⟩
abbrev S1x1024x5632 : Shape := ⟨3, ![1, 1024, 5632]⟩
abbrev S1x2816x1024 : Shape := ⟨3, ![1, 2816, 1024]⟩
abbrev S256x1024 : Shape := ⟨2, ![256, 1024]⟩
abbrev S1x1x1024 : Shape := ⟨3, ![1, 1, 1024]⟩
abbrev S256 : Shape := ⟨1, ![256]⟩
abbrev S256x1 : Shape := ⟨2, ![256, 1]⟩
abbrev S1x1024x1536 : Shape := ⟨3, ![1, 1024, 1536]⟩
abbrev S1024x1536 : Shape := ⟨2, ![1024, 1536]⟩
abbrev S256x1536 : Shape := ⟨2, ![256, 1536]⟩
abbrev S1x1536x1024 : Shape := ⟨3, ![1, 1536, 1024]⟩
abbrev S1536x1024 : Shape := ⟨2, ![1536, 1024]⟩
abbrev S1x1024x1280 : Shape := ⟨3, ![1, 1024, 1280]⟩
abbrev S1024x1280 : Shape := ⟨2, ![1024, 1280]⟩
abbrev S256x1280 : Shape := ⟨2, ![256, 1280]⟩
abbrev S1x1280x1024 : Shape := ⟨3, ![1, 1280, 1024]⟩
abbrev S1280x1024 : Shape := ⟨2, ![1280, 1024]⟩

abbrev nBuf : Space → Nat
  | .hbm => 18
  | .vmem => 11
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S1x1x6144, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S4x8x6144, .f32⟩
  | .hbm, ⟨8, _⟩ => ⟨S4x1024x5632, .bf16⟩
  | .hbm, ⟨9, _⟩ => ⟨S4x2816x1024, .bf16⟩
  | .hbm, ⟨10, _⟩ => ⟨S16384x1024, .f32⟩
  | .hbm, ⟨11, _⟩ => ⟨S16384x1024, .bf16⟩
  | .hbm, ⟨12, _⟩ => ⟨S1024x1024, .bf16⟩
  | .hbm, ⟨13, _⟩ => ⟨S16384x1024, .f32⟩
  | .hbm, ⟨14, _⟩ => ⟨S1x1024, .f32⟩
  | .hbm, ⟨15, _⟩ => ⟨S1024, .f32⟩
  | .hbm, ⟨16, _⟩ => ⟨S1x1024, .f32⟩
  | .hbm, ⟨17, _⟩ => ⟨S16384x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .f32⟩
  | .local _ .vmem, ⟨4, _⟩ => ⟨S1024x1024, .f32⟩
  | .local _ .vmem, ⟨5, _⟩ => ⟨S1x8x6144, .f32⟩
  | .local _ .vmem, ⟨6, _⟩ => ⟨S1x1024, .f32⟩
  | .local _ .vmem, ⟨7, _⟩ => ⟨S1x1024x5632, .bf16⟩
  | .local _ .vmem, ⟨8, _⟩ => ⟨S1x2816x1024, .bf16⟩
  | .local _ .vmem, ⟨9, _⟩ => ⟨S1024x1024, .f32⟩
  | .local _ .vmem, ⟨10, _⟩ => ⟨S1024x1024, .f32⟩
  | _, _ => ⟨S1x16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x8x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024x5632 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2816x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1024x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference3Ideal.lean ====
abbrev S1x16384x1024 : Shape := ⟨3, ![1, 16384, 1024]⟩
abbrev S1024x1024 : Shape := ⟨2, ![1024, 1024]⟩
abbrev S1x1x6144 : Shape := ⟨3, ![1, 1, 6144]⟩
abbrev S4x1024 : Shape := ⟨2, ![4, 1024]⟩
abbrev S4x1024x5632 : Shape := ⟨3, ![4, 1024, 5632]⟩
abbrev S4x2816x1024 : Shape := ⟨3, ![4, 2816, 1024]⟩
abbrev S1x1x1024 : Shape := ⟨3, ![1, 1, 1024]⟩
abbrev S1x1024 : Shape := ⟨2, ![1, 1024]⟩
abbrev S1024 : Shape := ⟨1, ![1024]⟩
abbrev S_ : Shape := ⟨0, ![]⟩
abbrev S1x16384 : Shape := ⟨2, ![1, 16384]⟩
abbrev S1x16384x1 : Shape := ⟨3, ![1, 16384, 1]⟩
abbrev S1x1024x5632 : Shape := ⟨3, ![1, 1024, 5632]⟩
abbrev S1024x5632 : Shape := ⟨2, ![1024, 5632]⟩
abbrev S1x2816x1024 : Shape := ⟨3, ![1, 2816, 1024]⟩
abbrev S2816x1024 : Shape := ⟨2, ![2816, 1024]⟩
abbrev S1x16384x5632 : Shape := ⟨3, ![1, 16384, 5632]⟩
abbrev S1x16384x2816 : Shape := ⟨3, ![1, 16384, 2816]⟩
abbrev S16384x1024 : Shape := ⟨2, ![16384, 1024]⟩

abbrev nBuf : Space → Nat
  | .hbm => 64
  | .vmem => 0
  | .smem => 0
  | _ => 0

abbrev bufTy : (tb : Table) → Fin (tcTables nBuf tb) → BufTy
  | .hbm, ⟨0, _⟩ => ⟨S1x16384x1024, .f32⟩
  | .hbm, ⟨1, _⟩ => ⟨S1024x1024, .f32⟩
  | .hbm, ⟨2, _⟩ => ⟨S1x16384x1024, .f32⟩
  | .hbm, ⟨3, _⟩ => ⟨S1x1x6144, .f32⟩
  | .hbm, ⟨4, _⟩ => ⟨S4x1024, .f32⟩
  | .hbm, ⟨5, _⟩ => ⟨S4x1024x5632, .f32⟩
  | .hbm, ⟨6, _⟩ => ⟨S4x2816x1024, .f32⟩
  | .hbm, ⟨7, _⟩ => ⟨S1x1x1024, .f32⟩
  | .hbm, ⟨8, _⟩ => ⟨S1x1x1024, .f32⟩
  | .hbm, ⟨9, _⟩ => ⟨S1x1x1024, .f32⟩
  | .hbm, ⟨10, _⟩ => ⟨S1x1x1024, .f32⟩
  | .hbm, ⟨11, _⟩ => ⟨S1x1x1024, .f32⟩
  | .hbm, ⟨12, _⟩ => ⟨S1x1x1024, .f32⟩
  | .hbm, ⟨13, _⟩ => ⟨S1x16384x1024, .f32⟩
  | .hbm, ⟨14, _⟩ => ⟨S1x16384x1024, .f32⟩
  | .hbm, ⟨15, _⟩ => ⟨S1x16384x1024, .f32⟩
  | .hbm, ⟨16, _⟩ => ⟨S1x16384x1024, .f32⟩
  | .hbm, ⟨17, _⟩ => ⟨S1x1024, .f32⟩
  | .hbm, ⟨18, _⟩ => ⟨S1024, .f32⟩
  | .hbm, ⟨19, _⟩ => ⟨S1x16384x1024, .f32⟩
  | .hbm, ⟨20, _⟩ => ⟨S_, .f32⟩
  | .hbm, ⟨21, _⟩ => ⟨S1x16384, .f32⟩
  | .hbm, ⟨22, _⟩ => ⟨S1x16384x1, .f32⟩
  | .hbm, ⟨23, _⟩ => ⟨S_, .f32⟩
  | .hbm, ⟨24, _⟩ => ⟨S1x16384x1, .f32⟩
  | .hbm, ⟨25, _⟩ => ⟨S1x16384x1, .f32⟩
  | .hbm, ⟨26, _⟩ => ⟨S_, .f32⟩
  | .hbm, ⟨27, _⟩ => ⟨S1x16384x1, .f32⟩
  | .hbm, ⟨28, _⟩ => ⟨S1x16384x1, .f32⟩
  | .hbm, ⟨29, _⟩ => ⟨S1x16384x1, .f32⟩
  | .hbm, ⟨30, _⟩ => ⟨S1x16384x1024, .f32⟩
  | .hbm, ⟨31, _⟩ => ⟨S1x16384x1024, .f32⟩
  | .hbm, ⟨32, _⟩ => ⟨S1x1x1024, .f32⟩
  | .hbm, ⟨33, _⟩ => ⟨S1x16384x1024, .f32⟩
  | .hbm, ⟨34, _⟩ => ⟨S1x16384x1024, .f32⟩
  | .hbm, ⟨35, _⟩ => ⟨S_, .f32⟩
  | .hbm, ⟨36, _⟩ => ⟨S1x1x1024, .f32⟩
  | .hbm, ⟨37, _⟩ => ⟨S1x1x1024, .f32⟩
  | .hbm, ⟨38, _⟩ => ⟨S1x16384x1024, .f32⟩
  | .hbm, ⟨39, _⟩ => ⟨S1x16384x1024, .f32⟩
  | .hbm, ⟨40, _⟩ => ⟨S1x16384x1024, .f32⟩
  | .hbm, ⟨41, _⟩ => ⟨S1x16384x1024, .f32⟩
  | .hbm, ⟨42, _⟩ => ⟨S1x1024x5632, .f32⟩
  | .hbm, ⟨43, _⟩ => ⟨S1024x5632, .f32⟩
  | .hbm, ⟨44, _⟩ => ⟨S1x2816x1024, .f32⟩
  | .hbm, ⟨45, _⟩ => ⟨S2816x1024, .f32⟩
  | .hbm, ⟨46, _⟩ => ⟨S1x16384x5632, .f32⟩
  | .hbm, ⟨47, _⟩ => ⟨S1x16384x2816, .f32⟩
  | .hbm, ⟨48, _⟩ => ⟨S1x16384x2816, .f32⟩
  | .hbm, ⟨49, _⟩ => ⟨S1x16384x2816, .f32⟩
  | .hbm, ⟨50, _⟩ => ⟨S1x16384x2816, .f32⟩
  | .hbm, ⟨51, _⟩ => ⟨S_, .f32⟩
  | .hbm, ⟨52, _⟩ => ⟨S1x16384x2816, .f32⟩
  | .hbm, ⟨53, _⟩ => ⟨S1x16384x2816, .f32⟩
  | .hbm, ⟨54, _⟩ => ⟨S_, .f32⟩
  | .hbm, ⟨55, _⟩ => ⟨S1x16384x2816, .f32⟩
  | .hbm, ⟨56, _⟩ => ⟨S1x16384x2816, .f32⟩
  | .hbm, ⟨57, _⟩ => ⟨S1x16384x2816, .f32⟩
  | .hbm, ⟨58, _⟩ => ⟨S1x16384x2816, .f32⟩
  | .hbm, ⟨59, _⟩ => ⟨S1x16384x1024, .f32⟩
  | .hbm, ⟨60, _⟩ => ⟨S1x16384x1024, .f32⟩
  | .hbm, ⟨61, _⟩ => ⟨S1x16384x1024, .f32⟩
  | .hbm, ⟨62, _⟩ => ⟨S1x16384x1024, .f32⟩
  | .hbm, ⟨63, _⟩ => ⟨S16384x1024, .f32⟩
  | _, _ => ⟨S1x16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst : Ref sig .tc := ⟨.hbm, 20, rfl⟩
abbrev main_v13 : Ref sig .tc := ⟨.hbm, 21, rfl⟩
abbrev main_v14 : Ref sig .tc := ⟨.hbm, 22, rfl⟩
abbrev main_cst_0 : Ref sig .tc := ⟨.hbm, 23, rfl⟩
abbrev main_v15 : Ref sig .tc := ⟨.hbm, 24, rfl⟩
abbrev main_v16 : Ref sig .tc := ⟨.hbm, 25, rfl⟩
abbrev main_cst_1 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_cst_2 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_call0_v0 : Ref sig .tc := ⟨.hbm, 49, rfl⟩
abbrev main_call0_v1 : Ref sig .tc := ⟨.hbm, 50, rfl⟩
abbrev main_call0_cst : Ref sig .tc := ⟨.hbm, 51, rfl⟩
abbrev main_call0_v2 : Ref sig .tc := ⟨.hbm, 52, rfl⟩
abbrev main_call0_v3 : Ref sig .tc := ⟨.hbm, 53, rfl⟩
abbrev main_call0_cst_0 : Ref sig .tc := ⟨.hbm, 54, rfl⟩
abbrev main_call0_v4 : Ref sig .tc := ⟨.hbm, 55, rfl⟩
abbrev main_call0_v5 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩

abbrev nD : Nat := 1
abbrev τ : Topo := Topo.v7x

variable {F : FTy → Type} [FloatOps F]
-- ==== Proof.AttnOps.lean ====
/- The steps of the attention kernel as programs of their own: clearing the running statistics, the scores of one
   chunk of keys, folding one chunk into the statistics, stacking a tile's queries, finishing a tile. -/
module

public import proofs.«01_k».proof.Proof.Gen.KernelIdeal.Skeleton
public import Idealize.ShloMosaic.Lib.Exec
public import Idealize.ShloMosaic.Lib.Tactic
public import Idealize.ShloMosaic.Lib.Pipeline.Kit

@[expose] public section

noncomputable section

namespace Cert.KernelIdeal.Attn

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F]

/-! ## What a step computes -/

/-- The starting maximum, the same large negative number in every column. -/
def mInit : FVec F S1x512 .f32 := broadcast S1x512 (Scalar.ofBits .f32 0xF149F2CA#32)

/-- The starting sums: zero. -/
def aInit : FVec F S144x512 .f32 := broadcast S144x512 (Scalar.ofBits .f32 0x00000000#32)

/-- The scores of one chunk of keys against the stacked queries, in the layout of their buffer. -/
def scoresVal (kc : FVec F S1280x128 .bf16) (qq : FVec F S1x512x128 .bf16) : FVec F S1x1280x512 .f32 :=
  shapeCast S1x1280x512
    (matmul dot_S1280x128_S512x128_S1280x512_1_1_0_0_n_n none kc
      (shapeCast S512x128 qq shapeCasts_S1x512x128_S512x128) (constant S1280x512 .f32 0x00000000#32))
    shapeCasts_S1280x512_S1x1280x512

/-- The scores without the buffer's leading axis. -/
def sFlat (s : FVec F S1x1280x512 .f32) : FVec F S1280x512 .f32 := shapeCast S1280x512 s shapeCasts_S1x1280x512_S1280x512

/-- The maximum after a chunk. -/
def mNew (s : FVec F S1x1280x512 .f32) (m : FVec F S1x512 .f32) : FVec F S1x512 .f32 :=
  maximumf m (shapeCast S1x512
    (multiReduction .maximumf [0] S512 (sFlat s) 0xFF800000#32 reduces_S1280x512_S512 (.inl rfl) rfl) shapeCasts_S512_S1x512)

/-- The factor that moves the old sums to the new maximum. -/
def alpha (s : FVec F S1x1280x512 .f32) (m : FVec F S1x512 .f32) : FVec F S1x512 .f32 := exp2 (subf m (mNew s m))

/-- The chunk's weights, relative to the new maximum. -/
def pVal (s : FVec F S1x1280x512 .f32) (m : FVec F S1x512 .f32) : FVec F S1280x512 .bf16 :=
  truncf .bf16 (exp2 (subf (sFlat s) (broadcastTo S1280x512 (mNew s m) broadcasts_S1x512_S1280x512))) bitsLt_bf16_f32

/-- The sums after a chunk. -/
def aNew (vc : FVec F S144x1280 .bf16) (s : FVec F S1x1280x512 .f32) (m : FVec F S1x512 .f32) (a : FVec F S144x512 .f32) :
    FVec F S144x512 .f32 :=
  addf (mulf a (broadcastTo S144x512 (alpha s m) broadcasts_S1x512_S144x512))
    (matmul dot_S144x1280_S1280x512_S144x512_1_0_0_1_n_n none vc (pVal s m) (constant S144x512 .f32 0x00000000#32))

/-- A tile's queries with the second group's lanes cleared. -/
def qLow (v0 : IVec S256x128 32) (q : FVec F S256x128 .bf16) : FVec F S1x256x128 .bf16 :=
  shapeCast S1x256x128 (select (cmpi .slt v0 (broadcast S256x128 64#32)) (shapeCast S256x128 q shapeCasts_S256x128_S256x128)
    (broadcast S256x128 (Scalar.ofBits .bf16 0x0000#16))) shapeCasts_S256x128_S1x256x128

/-- A tile's queries with the first group's lanes cleared. -/
def qHigh (v0 : IVec S256x128 32) (q : FVec F S256x128 .bf16) : FVec F S1x256x128 .bf16 :=
  shapeCast S1x256x128 (select (cmpi .sge v0 (broadcast S256x128 64#32)) (shapeCast S256x128 q shapeCasts_S256x128_S256x128)
    (broadcast S256x128 (Scalar.ofBits .bf16 0x0000#16))) shapeCasts_S256x128_S1x256x128

/-- The quotient of the sums by their last kind of row, the sum of the weights. -/
def quot (a : FVec F S144x512 .f32) : FVec F S128x512 .f32 :=
  divf (extractStridedSlice S128x512 ![0, 0] a slices_S144x512_o0_0_S128x512)
    (broadcastTo S128x512 (extractStridedSlice S1x512 ![128, 0] a slices_S144x512_o128_0_S1x512) broadcasts_S1x512_S128x512)

/-- The difference of the two groups' outputs. -/
def diff (lam : FVec F S1x1 .f32) (a : FVec F S144x512 .f32) : FVec F S256x128 .f32 :=
  transpose S256x128 [1, 0]
    (subf (extractStridedSlice S128x256 ![0, 0] (quot a) slices_S128x512_o0_0_S128x256)
      (mulf (broadcastTo S128x256 lam broadcasts_S1x1_S128x256)
        (extractStridedSlice S128x256 ![0, 256] (quot a) slices_S128x512_o0_256_S128x256)))
    transposes_S128x256_p1_0_S256x128

/-- The reciprocal root mean square of every row. -/
def rms (d : FVec F S256x128 .f32) : FVec F S256x1 .f32 :=
  rsqrt (addf (divf (shapeCast S256x1 (multiReduction .add [1] S256 (mulf d d) 0x00000000#32 reduces_S256x128_S256 (.inl rfl) rfl)
    shapeCasts_S256_S256x1) (broadcast S256x1 (Scalar.ofBits .f32 0x43000000#32)))
    (broadcast S256x1 (Scalar.ofBits .f32 0x358637BD#32)))

/-- What a finished tile stores. -/
def outVal (lam : FVec F S1x1 .f32) (gain : FVec F S1x128 .f32) (a : FVec F S144x512 .f32) : FVec F S256x128 .bf16 :=
  truncf .bf16 (mulf (mulf (diff lam a) (broadcastTo S256x128 (rms (diff lam a)) broadcasts_S256x1_S256x128))
    (broadcastTo S256x128 gain broadcasts_S1x128_S256x128)) bitsLt_bf16_f32

/-! ## The steps -/

/-- Every rectangle of one score buffer lies in the pair of buffers. -/
theorem inbS (b : ℕ) (hb : b < 2) : ∀ a, (![b, 0, 0] : Fin 3 → Nat) a + S1x1280x512.size a ≤ S2x1280x512.size a := by
  intro a; fin_cases a <;> simp <;> omega

theorem inbQ (b : ℕ) (hb : b < 2) : ∀ a, (![b, 0, 0] : Fin 3 → Nat) a + S1x512x128.size a ≤ S2x512x128.size a := by
  intro a; fin_cases a <;> simp <;> omega

theorem inbQh (b h : ℕ) (hb : b < 2) (hh : h < 2) :
    ∀ a, (![b, 256 * h, 0] : Fin 3 → Nat) a + S1x256x128.size a ≤ S2x512x128.size a := by
  intro a; fin_cases a <;> simp <;> omega

theorem inbK (c : ℕ) (hc : c < 13) : ∀ a, (![1280 * c, 0] : Fin 2 → Nat) a + S1280x128.size a ≤ S16640x128.size a := by
  intro a; fin_cases a <;> simp <;> omega

theorem inbV (c : ℕ) (hc : c < 13) : ∀ a, (![0, 1280 * c] : Fin 2 → Nat) a + S144x1280.size a ≤ S144x16640.size a := by
  intro a; fin_cases a <;> simp <;> omega

/-- One of the two score buffers. -/
abbrev rS (b : ℕ) (hb : b < 2) : Rect S2x1280x512 := Rect.unit (s := S2x1280x512) ![b, 0, 0] S1x1280x512.size (inbS b hb)
/-- One of the two slots of stacked queries. -/
abbrev rQ (b : ℕ) (hb : b < 2) : Rect S2x512x128 := Rect.unit (s := S2x512x128) ![b, 0, 0] S1x512x128.size (inbQ b hb)
/-- One half of a slot of stacked queries. -/
abbrev rQh (b h : ℕ) (hb : b < 2) (hh : h < 2) : Rect S2x512x128 :=
  Rect.unit (s := S2x512x128) ![b, 256 * h, 0] S1x256x128.size (inbQh b h hb hh)
/-- One chunk of keys. -/
abbrev rK (c : ℕ) (hc : c < 13) : Rect S16640x128 := Rect.unit (s := S16640x128) ![1280 * c, 0] S1280x128.size (inbK c hc)
/-- One chunk of transposed values. -/
abbrev rV (c : ℕ) (hc : c < 13) : Rect S144x16640 := Rect.unit (s := S144x16640) ![0, 1280 * c] S144x1280.size (inbV c hc)
/-- The whole row of maxima. -/
abbrev rM : Rect S1x512 := Rect.unit (s := S1x512) ![0, 0] S1x512.size inb_S1x512_S1x512_0_0
/-- All the sums. -/
abbrev rA : Rect S144x512 := Rect.unit (s := S144x512) ![0, 0] S144x512.size inb_S144x512_S144x512_0_0

/-- A kernel program of the TensorCore. -/
abbrev KProg (F : FTy → Type) [FloatOps F] (α : Type) : Type _ := Prog (TpuEff nD τ sig (Elt F) Λ₀ .tc) α

section steps
variable (arg1 : Memref sig .tc .vmem S16384x128 .bf16) (arg8 : Memref sig .tc .vmem S16384x128 .bf16) (harg8 : arg8.IsWhole)
  (arg9 : Memref sig .tc .vmem S2x512x128 .bf16) (harg9 : arg9.IsWhole) (arg10 : Memref sig .tc .vmem S16640x128 .bf16)
  (arg11 : Memref sig .tc .vmem S144x16640 .bf16) (arg12 : Memref sig .tc .vmem S2x1280x512 .f32)
  (arg13 : Memref sig .tc .vmem S1x512 .f32) (arg14 : Memref sig .tc .vmem S144x512 .f32)

/-- Clear the running statistics. -/
def initP : KProg F Unit := do
  let _ : Vec F S1x512 .f32 ← Prog.lift (.load arg13 rM.toLoadRect (View.loadsAt_vmem h_S1x512))
  Prog.lift (.store arg13 rM (shapeCast S1x512 (mInit (F := F)) shapeCasts_S1x512_S1x512) Finset.univ (View.stores_vmem_bits_univ h_S1x512 rfl) (.inl rfl))
  let _ : Vec F S144x512 .f32 ← Prog.lift (.load arg14 rA.toLoadRect (View.loadsAt_vmem h_S144x512))
  Prog.lift (.store arg14 rA (shapeCast S144x512 (aInit (F := F)) shapeCasts_S144x512_S144x512) Finset.univ (View.stores_vmem_bits_univ h_S144x512 rfl) (.inl rfl))

/-- The scores of chunk `c` against the queries in slot `slot`, into buffer `b`. -/
def scoresP (slot c b : ℕ) (hs : slot < 2) (hc : c < 13) (hb : b < 2) : KProg F Unit := do
  let kc : Vec F S1280x128 .bf16 ← Prog.lift (.load arg10 (rK c hc).toLoadRect (View.loadsAt_vmem h_S1280x128))
  let qq : Vec F S1x512x128 .bf16 ← Prog.lift (.load arg9 (rQ slot hs).toLoadRect (View.loadsAt_vmem h_S1x512x128))
  let _ : Vec F S1x1280x512 .f32 ← Prog.lift (.load arg12 (rS b hb).toLoadRect (View.loadsAt_vmem h_S1x1280x512))
  Prog.lift (.store arg12 (rS b hb) (scoresVal kc qq) Finset.univ (View.stores_vmem_bits_univ h_S1x1280x512 rfl) (.inl rfl))

/-- Fold chunk `c`, whose scores lie in buffer `b`, into the statistics. -/
def softP (c b : ℕ) (hc : c < 13) (hb : b < 2) : KProg F Unit := do
  let s : Vec F S1x1280x512 .f32 ← Prog.lift (.load arg12 (rS b hb).toLoadRect (View.loadsAt_vmem h_S1x1280x512))
  let m : Vec F S1x512 .f32 ← Prog.lift (.load arg13 rM.toLoadRect (View.loadsAt_vmem h_S1x512))
  let vc : Vec F S144x1280 .bf16 ← Prog.lift (.load arg11 (rV c hc).toLoadRect (View.loadsAt_vmem h_S144x1280))
  let a : Vec F S144x512 .f32 ← Prog.lift (.load arg14 rA.toLoadRect (View.loadsAt_vmem h_S144x512))
  let _ : Vec F S144x512 .f32 ← Prog.lift (.load arg14 rA.toLoadRect (View.loadsAt_vmem h_S144x512))
  Prog.lift (.store arg14 rA (shapeCast S144x512 (aNew vc s m a) shapeCasts_S144x512_S144x512) Finset.univ (View.stores_vmem_bits_univ h_S144x512 rfl) (.inl rfl))
  let _ : Vec F S1x512 .f32 ← Prog.lift (.load arg13 rM.toLoadRect (View.loadsAt_vmem h_S1x512))
  Prog.lift (.store arg13 rM (shapeCast S1x512 (mNew s m) shapeCasts_S1x512_S1x512) Finset.univ (View.stores_vmem_bits_univ h_S1x512 rfl) (.inl rfl))

/-- Stack the queries at rows `off` into slot `slot`. -/
def stackP (v0 : IVec S256x128 32) (off : Fin 2 → ℕ) (hoff : ∀ a, off a + S256x128.size a ≤ S16384x128.size a) (slot : ℕ) (hs : slot < 2)
    (hp : ∀ h (hh : h < 2), (rQh slot h hs hh).PackedRows (EltTy.packing .bf16)) : KProg F Unit := do
  let q : Vec F S256x128 .bf16 ← Prog.lift (.load arg1 (Rect.unit (s := S16384x128) off S256x128.size hoff).toLoadRect (View.loadsAt_vmem h_S256x128))
  let _ : Vec F S1x256x128 .bf16 ← Prog.lift (.load arg9 (rQh slot 0 hs (by omega)).toLoadRect (View.loadsAt_vmem h_S1x256x128))
  Prog.lift (.store arg9 (rQh slot 0 hs (by omega)) (qLow v0 q) Finset.univ (View.stores_vmem h_S1x256x128 (harg9.storeExact_slice rfl _ (hp 0 (by omega))) (fun _ => rfl)) (.inl rfl))
  let _ : Vec F S1x256x128 .bf16 ← Prog.lift (.load arg9 (rQh slot 1 hs (by omega)).toLoadRect (View.loadsAt_vmem h_S1x256x128))
  Prog.lift (.store arg9 (rQh slot 1 hs (by omega)) (qHigh v0 q) Finset.univ (View.stores_vmem h_S1x256x128 (harg9.storeExact_slice rfl _ (hp 1 (by omega))) (fun _ => rfl)) (.inl rfl))

/-- Finish a tile: the result from the sums, into the rows `off`. -/
def finP (lam : FVec F S1x1 .f32) (gain : FVec F S1x128 .f32) (off : Fin 2 → ℕ) (hoff : ∀ a, off a + S256x128.size a ≤ S16384x128.size a)
    (hp : (Rect.unit (s := S16384x128) off S256x128.size hoff).PackedRows (EltTy.packing .bf16)) : KProg F Unit := do
  let a : Vec F S144x512 .f32 ← Prog.lift (.load arg14 rA.toLoadRect (View.loadsAt_vmem h_S144x512))
  let _ : Vec F S256x128 .bf16 ← Prog.lift (.load arg8 (Rect.unit (s := S16384x128) off S256x128.size hoff).toLoadRect (View.loadsAt_vmem h_S256x128))
  Prog.lift (.store arg8 (Rect.unit (s := S16384x128) off S256x128.size hoff) (outVal lam gain a) Finset.univ (View.stores_vmem h_S256x128 (harg8.storeExact_slice rfl _ hp) (fun _ => rfl)) (.inl rfl))

/-- One chunk but the last: the next chunk's scores into the other buffer, then this chunk's. -/
def chunkP (slot c b b' : ℕ) (hs : slot < 2) (hc : c < 12) (hb : b < 2) (hb' : b' < 2) : KProg F Unit := do
  scoresP arg9 arg10 arg12 slot (c + 1) b' hs (by omega) hb'
  softP arg11 arg12 arg13 arg14 c b (by omega) hb

/-- One tile: all the chunks, the next tile's queries and first scores before the last of them, the result. -/
def tileP (v0 : IVec S256x128 32) (lam : FVec F S1x1 .f32) (gain : FVec F S1x128 .f32)
    (off : Fin 2 → ℕ) (hoff : ∀ a, off a + S256x128.size a ≤ S16384x128.size a)
    (hp : (Rect.unit (s := S16384x128) off S256x128.size hoff).PackedRows (EltTy.packing .bf16))
    (offn : Fin 2 → ℕ) (hoffn : ∀ a, offn a + S256x128.size a ≤ S16384x128.size a)
    (slot slot' : ℕ) (hs : slot < 2) (hs' : slot' < 2) (hpq : ∀ h (hh : h < 2), (rQh slot' h hs' hh).PackedRows (EltTy.packing .bf16))
    (b b' : ℕ) (hb : b < 2) (hb' : b' < 2) : KProg F Unit := do
  initP arg13 arg14
  chunkP arg9 arg10 arg11 arg12 arg13 arg14 slot 0 b b' hs (by omega) hb hb'
  chunkP arg9 arg10 arg11 arg12 arg13 arg14 slot 1 b' b hs (by omega) hb' hb
  chunkP arg9 arg10 arg11 arg12 arg13 arg14 slot 2 b b' hs (by omega) hb hb'
  chunkP arg9 arg10 arg11 arg12 arg13 arg14 slot 3 b' b hs (by omega) hb' hb
  chunkP arg9 arg10 arg11 arg12 arg13 arg14 slot 4 b b' hs (by omega) hb hb'
  chunkP arg9 arg10 arg11 arg12 arg13 arg14 slot 5 b' b hs (by omega) hb' hb
  chunkP arg9 arg10 arg11 arg12 arg13 arg14 slot 6 b b' hs (by omega) hb hb'
  chunkP arg9 arg10 arg11 arg12 arg13 arg14 slot 7 b' b hs (by omega) hb' hb
  chunkP arg9 arg10 arg11 arg12 arg13 arg14 slot 8 b b' hs (by omega) hb hb'
  chunkP arg9 arg10 arg11 arg12 arg13 arg14 slot 9 b' b hs (by omega) hb' hb
  chunkP arg9 arg10 arg11 arg12 arg13 arg14 slot 10 b b' hs (by omega) hb hb'
  chunkP arg9 arg10 arg11 arg12 arg13 arg14 slot 11 b' b hs (by omega) hb' hb
  stackP arg1 arg9 harg9 v0 offn hoffn slot' hs' hpq
  scoresP arg9 arg10 arg12 slot' 0 b' hs' (by omega) hb'
  softP arg11 arg12 arg13 arg14 12 b (by omega) hb
  finP arg8 harg8 arg14 lam gain off hoff hp

end steps

/-- The halves of either slot are packed rows. -/
theorem packedQ (slot : ℕ) (hs : slot < 2) : ∀ h (hh : h < 2), (rQh slot h hs hh).PackedRows (EltTy.packing .bf16) := by
  intro h hh
  match slot, hs, h, hh with
  | 0, _, 0, _ => exact packedbf16_S2x512x128_S1x256x128_0_0_0
  | 0, _, 1, _ => exact packedbf16_S2x512x128_S1x256x128_0_256_0
  | 1, _, 0, _ => exact packedbf16_S2x512x128_S1x256x128_1_0_0
  | 1, _, 1, _ => exact packedbf16_S2x512x128_S1x256x128_1_256_0

end Cert.KernelIdeal.Attn
-- ==== Proof.AttnRun.lean ====
/- What each step of the attention kernel does to the buffers it holds. -/
module

public import proofs.«01_k».proof.Proof.AttnOps

@[expose] public section

noncomputable section

namespace Cert.KernelIdeal.Attn

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F]

local notation "𝕄" => MT nD τ sig Unit (Elt F) ℕ (UR sig nD τ) ℕ

/-- The buffers a tile reads and writes. -/
structure Bufs where
  arg1 : Memref sig .tc .vmem S16384x128 .bf16
  arg8 : Memref sig .tc .vmem S16384x128 .bf16
  arg9 : Memref sig .tc .vmem S2x512x128 .bf16
  arg10 : Memref sig .tc .vmem S16640x128 .bf16
  arg11 : Memref sig .tc .vmem S144x16640 .bf16
  arg12 : Memref sig .tc .vmem S2x1280x512 .f32
  arg13 : Memref sig .tc .vmem S1x512 .f32
  arg14 : Memref sig .tc .vmem S144x512 .f32
  harg8 : arg8.IsWhole
  harg9 : arg9.IsWhole

/-- Their contents. -/
structure State (F : FTy → Type) [FloatOps F] (B : Bufs) where
  x1 : B.arg1.view.ty.Contents (Elt F)
  x10 : B.arg10.view.ty.Contents (Elt F)
  x11 : B.arg11.view.ty.Contents (Elt F)
  f8 : B.arg8.view.ty.Contents (Elt F)
  f9 : B.arg9.view.ty.Contents (Elt F)
  f12 : B.arg12.view.ty.Contents (Elt F)
  f13 : B.arg13.view.ty.Contents (Elt F)
  f14 : B.arg14.view.ty.Contents (Elt F)

variable (B : Bufs) (c : Dev nD)

/-- The buffers are held at these contents. -/
abbrev St (σ : State F B) : sProp 𝕄 :=
  iprop((B.arg1.view.loc (c : Thread nD τ) ↦[B.arg1.view.set]{fullShare} σ.x1) ∗ (B.arg10.view.loc (c : Thread nD τ) ↦[B.arg10.view.set]{fullShare} σ.x10)
    ∗ (B.arg11.view.loc (c : Thread nD τ) ↦[B.arg11.view.set]{fullShare} σ.x11) ∗ (B.arg8.view.loc (c : Thread nD τ) ↦[B.arg8.view.set]{fullShare} σ.f8)
    ∗ (B.arg9.view.loc (c : Thread nD τ) ↦[B.arg9.view.set]{fullShare} σ.f9) ∗ (B.arg12.view.loc (c : Thread nD τ) ↦[B.arg12.view.set]{fullShare} σ.f12)
    ∗ (B.arg13.view.loc (c : Thread nD τ) ↦[B.arg13.view.set]{fullShare} σ.f13) ∗ (B.arg14.view.loc (c : Thread nD τ) ↦[B.arg14.view.set]{fullShare} σ.f14))

variable {B}
/-- The state after the scores of a chunk. -/
def scoresF (σ : State F B) (slot ch b : ℕ) (hs : slot < 2) (hc : ch < 13) (hb : b < 2) : State F B :=
  { σ with f12 := B.arg12.view.writes (Elt F) σ.f12 [⟨rS b hb,
      scoresVal (B.arg10.view.readAt (Elt F) (rK ch hc).toLoadRect σ.x10) (B.arg9.view.readAt (Elt F) (rQ slot hs).toLoadRect σ.f9)⟩] }

/-- The state after a chunk is folded into the statistics. -/
def softF (σ : State F B) (ch b : ℕ) (hc : ch < 13) (hb : b < 2) : State F B :=
  { σ with
    f14 := B.arg14.view.writes (Elt F) σ.f14 [⟨rA, shapeCast S144x512 (aNew (B.arg11.view.readAt (Elt F) (rV ch hc).toLoadRect σ.x11)
      (B.arg12.view.readAt (Elt F) (rS b hb).toLoadRect σ.f12) (B.arg13.view.readAt (Elt F) rM.toLoadRect σ.f13)
      (B.arg14.view.readAt (Elt F) rA.toLoadRect σ.f14)) shapeCasts_S144x512_S144x512⟩]
    f13 := B.arg13.view.writes (Elt F) σ.f13 [⟨rM, shapeCast S1x512 (mNew (B.arg12.view.readAt (Elt F) (rS b hb).toLoadRect σ.f12)
      (B.arg13.view.readAt (Elt F) rM.toLoadRect σ.f13)) shapeCasts_S1x512_S1x512⟩] }

/-- The state after the statistics are cleared. -/
def initF (σ : State F B) : State F B :=
  { σ with
    f13 := B.arg13.view.writes (Elt F) σ.f13 [⟨rM, shapeCast S1x512 (mInit (F := F)) shapeCasts_S1x512_S1x512⟩]
    f14 := B.arg14.view.writes (Elt F) σ.f14 [⟨rA, shapeCast S144x512 (aInit (F := F)) shapeCasts_S144x512_S144x512⟩] }

/-- The state after a tile's queries are stacked. -/
def stackF (σ : State F B) (v0 : IVec S256x128 32) (off : Fin 2 → ℕ) (hoff : ∀ a, off a + S256x128.size a ≤ S16384x128.size a)
    (slot : ℕ) (hs : slot < 2) : State F B :=
  { σ with
    f9 := B.arg9.view.writes (Elt F) σ.f9
      [⟨rQh slot 1 hs (by omega), qHigh v0 (B.arg1.view.readAt (Elt F) (Rect.unit (s := S16384x128) off S256x128.size hoff).toLoadRect σ.x1)⟩,
       ⟨rQh slot 0 hs (by omega), qLow v0 (B.arg1.view.readAt (Elt F) (Rect.unit (s := S16384x128) off S256x128.size hoff).toLoadRect σ.x1)⟩] }

/-- The state after a tile's result is stored. -/
def finF (σ : State F B) (lam : FVec F S1x1 .f32) (gain : FVec F S1x128 .f32) (off : Fin 2 → ℕ)
    (hoff : ∀ a, off a + S256x128.size a ≤ S16384x128.size a) : State F B :=
  { σ with
    f8 := B.arg8.view.writes (Elt F) σ.f8 [⟨Rect.unit (s := S16384x128) off S256x128.size hoff,
      outVal lam gain (B.arg14.view.readAt (Elt F) rA.toLoadRect σ.f14)⟩] }

variable (𝒱 : Variants) (bd : Option 𝒱.V) (E : Set ℕ)

theorem wp_scores (σ : State F B) (slot ch b : ℕ) (hs : slot < 2) (hc : ch < 13) (hb : b < 2) :
    St B c σ ⊢ wp frame (wpE (defs₀ (F := F)) 𝒱 (c : Thread nD τ) bd) E (scoresP B.arg9 B.arg10 B.arg12 slot ch b hs hc hb)
      (fun _ => St B c (scoresF σ slot ch b hs hc hb)) := by
  unfold scoresP scoresF
  iintro ⟨H1, H10, H11, H8, H9, H12, H13, H14⟩
  sl_exec
  sl_step
  sl_close

theorem wp_soft (σ : State F B) (ch b : ℕ) (hc : ch < 13) (hb : b < 2) :
    St B c σ ⊢ wp frame (wpE (defs₀ (F := F)) 𝒱 (c : Thread nD τ) bd) E (softP B.arg11 B.arg12 B.arg13 B.arg14 ch b hc hb)
      (fun _ => St B c (softF σ ch b hc hb)) := by
  unfold softP softF
  iintro ⟨H1, H10, H11, H8, H9, H12, H13, H14⟩
  sl_exec
  sl_step
  sl_close

theorem wp_init (σ : State F B) :
    St B c σ ⊢ wp frame (wpE (defs₀ (F := F)) 𝒱 (c : Thread nD τ) bd) E (initP B.arg13 B.arg14) (fun _ => St B c (initF σ)) := by
  unfold initP initF
  iintro ⟨H1, H10, H11, H8, H9, H12, H13, H14⟩
  sl_exec
  sl_step
  sl_close

theorem wp_stack (σ : State F B) (v0 : IVec S256x128 32) (off : Fin 2 → ℕ) (hoff : ∀ a, off a + S256x128.size a ≤ S16384x128.size a)
    (slot : ℕ) (hs : slot < 2) (hp : ∀ h (hh : h < 2), (rQh slot h hs hh).PackedRows (EltTy.packing .bf16)) :
    St B c σ ⊢ wp frame (wpE (defs₀ (F := F)) 𝒱 (c : Thread nD τ) bd) E (stackP B.arg1 B.arg9 B.harg9 v0 off hoff slot hs hp)
      (fun _ => St B c (stackF σ v0 off hoff slot hs)) := by
  unfold stackP stackF
  iintro ⟨H1, H10, H11, H8, H9, H12, H13, H14⟩
  sl_exec
  sl_step
  sl_close

theorem wp_fin (σ : State F B) (lam : FVec F S1x1 .f32) (gain : FVec F S1x128 .f32) (off : Fin 2 → ℕ)
    (hoff : ∀ a, off a + S256x128.size a ≤ S16384x128.size a)
    (hp : (Rect.unit (s := S16384x128) off S256x128.size hoff).PackedRows (EltTy.packing .bf16)) :
    St B c σ ⊢ wp frame (wpE (defs₀ (F := F)) 𝒱 (c : Thread nD τ) bd) E (finP B.arg8 B.harg8 B.arg14 lam gain off hoff hp)
      (fun _ => St B c (finF σ lam gain off hoff)) := by
  unfold finP finF
  iintro ⟨H1, H10, H11, H8, H9, H12, H13, H14⟩
  sl_exec
  sl_step
  sl_close

end Cert.KernelIdeal.Attn
-- ==== Proof.AttnTile.lean ====
/- Tiles and trips as functions of the buffers' contents, and what they leave in the buffers. -/
module

public import proofs.«01_k».proof.Proof.AttnRun
public import Idealize.ShloMosaic.Lib.Pointwise
public import Idealize.ShloMosaic.Lib.Writes
public import Idealize.ShloMosaic.Lib.WritesUnit

@[expose] public section

noncomputable section

namespace Cert.KernelIdeal.Attn

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F] {B : Bufs} (c : Dev nD) (𝒱 : Variants) (bd : Option 𝒱.V) (E : Set ℕ)

/-! ## Reading what was written -/

section reads
variable {sg : RefSig} {κ : Kind} {sp : Space} {s : Shape} {e : EltTy} {Val : EltTy → Type}

/-- What was written last through a rectangle is what a load through it reads. -/
theorem readAt_same (v : View sg κ sp s e) (f : v.ty.Contents Val) (r : Rect s) (w : r.shape.Idx → Val e) (L : List (View.Piece Val s e)) :
    v.readAt Val r.toLoadRect (v.writes Val f (⟨r, w⟩ :: L)) = w :=
  funext fun x => View.read_writes_cons_emb v f r w L x

/-- A write apart from a rectangle on one axis does not change what a load through it reads. -/
theorem readAt_miss (v : View sg κ sp s e) (f : v.ty.Contents Val) (r : Rect s) (p : View.Piece Val s e) (L : List (View.Piece Val s e))
    (a : Fin s.rank) (hr : r.stride a = 1) (hp : p.1.stride a = 1)
    (h : r.off a + r.size a ≤ p.1.off a ∨ p.1.off a + p.1.size a ≤ r.off a) :
    v.readAt Val r.toLoadRect (v.writes Val f (p :: L)) = v.readAt Val r.toLoadRect (v.writes Val f L) := by
  funext x
  refine View.read_writes_cons_miss_of_axis v f p L (r.emb x) a _ _ rfl hp rfl ?_
  have h1 : ((r.emb x) a).val = r.off a + r.stride a * (x a).val := rfl
  have h2 : (x a).val < r.size a := (x a).isLt
  rw [h1, hr, Nat.one_mul]
  omega

end reads

/-- A cast to the same shape changes nothing. -/
theorem shapeCast_id {s : Shape} {α : Type} (v : s.Idx → α) (h : s.ShapeCasts s) : shapeCast s v h = v := by
  funext x
  simp [shapeCast]

/-! ## The pure steps -/

/-- A chunk but the last. -/
def chunkF (σ : State F B) (slot ch b b' : ℕ) (hs : slot < 2) (hc : ch < 12) (hb : b < 2) (hb' : b' < 2) : State F B :=
  softF (scoresF σ slot (ch + 1) b' hs (by omega) hb') ch b (by omega) hb

/-- All chunks but the last of one tile. -/
def chunksF (σ : State F B) (slot b b' : ℕ) (hs : slot < 2) (hb : b < 2) (hb' : b' < 2) : State F B :=
  let σ := initF σ
  let σ := chunkF σ slot 0 b b' hs (by omega) hb hb'
  let σ := chunkF σ slot 1 b' b hs (by omega) hb' hb
  let σ := chunkF σ slot 2 b b' hs (by omega) hb hb'
  let σ := chunkF σ slot 3 b' b hs (by omega) hb' hb
  let σ := chunkF σ slot 4 b b' hs (by omega) hb hb'
  let σ := chunkF σ slot 5 b' b hs (by omega) hb' hb
  let σ := chunkF σ slot 6 b b' hs (by omega) hb hb'
  let σ := chunkF σ slot 7 b' b hs (by omega) hb' hb
  let σ := chunkF σ slot 8 b b' hs (by omega) hb hb'
  let σ := chunkF σ slot 9 b' b hs (by omega) hb' hb
  let σ := chunkF σ slot 10 b b' hs (by omega) hb hb'
  chunkF σ slot 11 b' b hs (by omega) hb' hb

/-- One tile. -/
def tileF (σ : State F B) (v0 : IVec S256x128 32) (lam : FVec F S1x1 .f32) (gain : FVec F S1x128 .f32)
    (off : Fin 2 → ℕ) (hoff : ∀ a, off a + S256x128.size a ≤ S16384x128.size a)
    (offn : Fin 2 → ℕ) (hoffn : ∀ a, offn a + S256x128.size a ≤ S16384x128.size a)
    (slot slot' : ℕ) (hs : slot < 2) (hs' : slot' < 2) (b b' : ℕ) (hb : b < 2) (hb' : b' < 2) : State F B :=
  finF (softF (scoresF (stackF (chunksF σ slot b b' hs hb hb') v0 offn hoffn slot' hs') slot' 0 b' hs' (by omega) hb') 12 b (by omega) hb)
    lam gain off hoff

/-- One trip of the loop. -/
def tripF (σ : State F B) (v0 : IVec S256x128 32) (lam : FVec F S1x1 .f32) (gain : FVec F S1x128 .f32) (k : Fin k0_t1_loop.trips) : State F B :=
  tileF (tileF σ v0 lam gain (k0_off2 k) (k0_off2_inb k) (k0_off1 k) (k0_off1_inb k) 0 1 (by omega) (by omega) 0 1 (by omega) (by omega))
    v0 lam gain (k0_off1 k) (k0_off1_inb k) (k0_off3 k) (k0_off3_inb k) 1 0 (by omega) (by omega) 1 0 (by omega) (by omega)

/-- The state before trip `k`. -/
def loopF (σ : State F B) (v0 : IVec S256x128 32) (lam : FVec F S1x1 .f32) (gain : FVec F S1x128 .f32) : ℕ → State F B
  | 0 => σ
  | k + 1 => if h : k < k0_t1_loop.trips then tripF (loopF σ v0 lam gain k) v0 lam gain ⟨k, h⟩ else loopF σ v0 lam gain k

/-! ## The steps run -/

/-- One program after another. -/
theorem wp_seq {α : Type} {P R : sProp (MT nD τ sig Unit (Elt F) ℕ (UR sig nD τ) ℕ)} {Q : α → sProp (MT nD τ sig Unit (Elt F) ℕ (UR sig nD τ) ℕ)}
    {p : KProg F Unit} {q : KProg F α}
    (h1 : P ⊢ wp frame (wpE (defs₀ (F := F)) 𝒱 (c : Thread nD τ) bd) E p (fun _ => R))
    (h2 : R ⊢ wp frame (wpE (defs₀ (F := F)) 𝒱 (c : Thread nD τ) bd) E q Q) :
    P ⊢ wp frame (wpE (defs₀ (F := F)) 𝒱 (c : Thread nD τ) bd) E (p >>= fun _ => q) Q := by
  rw [wp_bind]
  exact h1.trans (wp_mono _ _ _ fun _ => h2)

theorem wp_chunk (σ : State F B) (slot ch b b' : ℕ) (hs : slot < 2) (hc : ch < 12) (hb : b < 2) (hb' : b' < 2) :
    St B c σ ⊢ wp frame (wpE (defs₀ (F := F)) 𝒱 (c : Thread nD τ) bd) E
      (chunkP B.arg9 B.arg10 B.arg11 B.arg12 B.arg13 B.arg14 slot ch b b' hs hc hb hb')
      (fun _ => St B c (chunkF σ slot ch b b' hs hc hb hb')) :=
  wp_seq c 𝒱 bd E (wp_scores c 𝒱 bd E _ _ _ _ _ _ _) (wp_soft c 𝒱 bd E _ _ _ _ _)

theorem wp_tile (σ : State F B) (v0 : IVec S256x128 32) (lam : FVec F S1x1 .f32) (gain : FVec F S1x128 .f32)
    (off : Fin 2 → ℕ) (hoff : ∀ a, off a + S256x128.size a ≤ S16384x128.size a)
    (hp : (Rect.unit (s := S16384x128) off S256x128.size hoff).PackedRows (EltTy.packing .bf16))
    (offn : Fin 2 → ℕ) (hoffn : ∀ a, offn a + S256x128.size a ≤ S16384x128.size a)
    (slot slot' : ℕ) (hs : slot < 2) (hs' : slot' < 2) (hpq : ∀ h (hh : h < 2), (rQh slot' h hs' hh).PackedRows (EltTy.packing .bf16))
    (b b' : ℕ) (hb : b < 2) (hb' : b' < 2) :
    St B c σ ⊢ wp frame (wpE (defs₀ (F := F)) 𝒱 (c : Thread nD τ) bd) E
      (tileP B.arg1 B.arg8 B.harg8 B.arg9 B.harg9 B.arg10 B.arg11 B.arg12 B.arg13 B.arg14 v0 lam gain off hoff hp offn hoffn slot slot' hs hs' hpq b b' hb hb')
      (fun _ => St B c (tileF σ v0 lam gain off hoff offn hoffn slot slot' hs hs' b b' hb hb')) := by
  unfold tileP
  refine wp_seq c 𝒱 bd E (wp_init c 𝒱 bd E _) ?_
  iterate 12 refine wp_seq c 𝒱 bd E (wp_chunk c 𝒱 bd E _ _ _ _ _ _ _ _ _) ?_
  refine wp_seq c 𝒱 bd E (wp_stack c 𝒱 bd E _ _ _ _ _ _ _) ?_
  refine wp_seq c 𝒱 bd E (wp_scores c 𝒱 bd E _ _ _ _ _ _ _) ?_
  refine wp_seq c 𝒱 bd E (wp_soft c 𝒱 bd E _ _ _ _ _) ?_
  exact wp_fin c 𝒱 bd E _ _ _ _ _ _

end Cert.KernelIdeal.Attn
-- ==== Proof.AttnState.lean ====
/- The statistics of a tile, chunk by chunk, and what the whole loop leaves in the result. -/
module

public import proofs.«01_k».proof.Proof.AttnTile

@[expose] public section

noncomputable section

namespace Cert.KernelIdeal.Attn

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F] {B : Bufs}

theorem readAt_apply {sg : RefSig} {κ : Kind} {sp : Space} {s : Shape} {e : EltTy} {Val : EltTy → Type} (v : View sg κ sp s e) (f : v.ty.Contents Val)
    (r : Rect s) (x : r.shape.Idx) : v.readAt Val r.toLoadRect f x = v.read Val f (r.emb x) := rfl

theorem writes_nil {sg : RefSig} {κ : Kind} {sp : Space} {s : Shape} {e : EltTy} {Val : EltTy → Type} (v : View sg κ sp s e) (f : v.ty.Contents Val) :
    v.writes Val f [] = f := rfl

attribute [local irreducible] View.writes View.readAt

/-! ## The statistics of a tile -/

/-- The running maximum before chunk `n` of stacked queries `qq` against the chunks `kc` of keys. -/
def mSt (kc : ℕ → FVec F S1280x128 .bf16) (qq : FVec F S1x512x128 .bf16) : ℕ → FVec F S1x512 .f32
  | 0 => mInit
  | n + 1 => mNew (scoresVal (kc n) qq) (mSt kc qq n)

/-- The running sums before chunk `n`. -/
def aSt (kc : ℕ → FVec F S1280x128 .bf16) (vc : ℕ → FVec F S144x1280 .bf16) (qq : FVec F S1x512x128 .bf16) : ℕ → FVec F S144x512 .f32
  | 0 => aInit
  | n + 1 => aNew (vc n) (scoresVal (kc n) qq) (mSt kc qq n) (aSt kc vc qq n)

/-- Two halves of stacked queries in one slot. -/
def stackQ (lo hi : FVec F S1x256x128 .bf16) : FVec F S1x512x128 .bf16 := fun i =>
  if h : (i 1).val < 256 then lo (ix3 (n0 := 1) (n1 := 256) (n2 := 128) 0 ⟨(i 1).val, h⟩ (i 2))
  else hi (ix3 (n0 := 1) (n1 := 256) (n2 := 128) 0 ⟨(i 1).val - 256, by have : (i 1).val < 512 := (i 1).isLt; omega⟩ (i 2))

/-- The keys and values a state holds are these chunks; its queries and its results are these. -/
structure Has (σ : State F B) (kc : ℕ → FVec F S1280x128 .bf16) (vc : ℕ → FVec F S144x1280 .bf16)
    (x1 : B.arg1.view.ty.Contents (Elt F)) (f8 : B.arg8.view.ty.Contents (Elt F)) : Prop where
  h1 : σ.x1 = x1
  h8 : σ.f8 = f8
  hk : ∀ n (h : n < 13), B.arg10.view.readAt (Elt F) (rK n h).toLoadRect σ.x10 = kc n
  hv : ∀ n (h : n < 13), B.arg11.view.readAt (Elt F) (rV n h).toLoadRect σ.x11 = vc n

variable (kc : ℕ → FVec F S1280x128 .bf16) (vc : ℕ → FVec F S144x1280 .bf16)
  (x1 : B.arg1.view.ty.Contents (Elt F)) (f8 : B.arg8.view.ty.Contents (Elt F))

/-- Before chunk `n` of the queries in `slot`, whose scores lie in buffer `b`. -/
structure At (σ : State F B) (qq : FVec F S1x512x128 .bf16) (slot b n : ℕ) (hs : slot < 2) (hb : b < 2) : Prop where
  has : Has σ kc vc x1 f8
  hQ : B.arg9.view.readAt (Elt F) (rQ slot hs).toLoadRect σ.f9 = qq
  hS : B.arg12.view.readAt (Elt F) (rS b hb).toLoadRect σ.f12 = scoresVal (kc n) qq
  hM : B.arg13.view.readAt (Elt F) rM.toLoadRect σ.f13 = mSt kc qq n
  hA : B.arg14.view.readAt (Elt F) rA.toLoadRect σ.f14 = aSt kc vc qq n

/-- Before a tile: its queries stacked in `slot`, its first scores in buffer `b`. -/
structure Pre (σ : State F B) (qq : FVec F S1x512x128 .bf16) (slot b : ℕ) (hs : slot < 2) (hb : b < 2) : Prop where
  has : Has σ kc vc x1 f8
  hQ : B.arg9.view.readAt (Elt F) (rQ slot hs).toLoadRect σ.f9 = qq
  hS : B.arg12.view.readAt (Elt F) (rS b hb).toLoadRect σ.f12 = scoresVal (kc 0) qq

variable {kc vc x1 f8}

theorem init_M (σ : State F B) : B.arg13.view.readAt (Elt F) rM.toLoadRect (initF σ).f13 = mInit :=
  (readAt_same _ _ _ _ _).trans (shapeCast_id _ _)

theorem init_A (σ : State F B) : B.arg14.view.readAt (Elt F) rA.toLoadRect (initF σ).f14 = aInit :=
  (readAt_same _ _ _ _ _).trans (shapeCast_id _ _)

theorem softF_M (σ : State F B) (ch b : ℕ) (hc : ch < 13) (hb : b < 2) :
    B.arg13.view.readAt (Elt F) rM.toLoadRect (softF σ ch b hc hb).f13 =
      mNew (B.arg12.view.readAt (Elt F) (rS b hb).toLoadRect σ.f12) (B.arg13.view.readAt (Elt F) rM.toLoadRect σ.f13) :=
  (readAt_same _ _ _ _ _).trans (shapeCast_id _ _)

theorem softF_A (σ : State F B) (ch b : ℕ) (hc : ch < 13) (hb : b < 2) :
    B.arg14.view.readAt (Elt F) rA.toLoadRect (softF σ ch b hc hb).f14 =
      aNew (B.arg11.view.readAt (Elt F) (rV ch hc).toLoadRect σ.x11) (B.arg12.view.readAt (Elt F) (rS b hb).toLoadRect σ.f12)
        (B.arg13.view.readAt (Elt F) rM.toLoadRect σ.f13) (B.arg14.view.readAt (Elt F) rA.toLoadRect σ.f14) :=
  (readAt_same _ _ _ _ _).trans (shapeCast_id _ _)

theorem At_init {σ : State F B} {qq : FVec F S1x512x128 .bf16} {slot b : ℕ} {hs : slot < 2} {hb : b < 2} (h : Pre kc vc x1 f8 σ qq slot b hs hb) :
    At kc vc x1 f8 (initF σ) qq slot b 0 hs hb where
  has := ⟨h.has.h1, h.has.h8, h.has.hk, h.has.hv⟩
  hQ := h.hQ
  hS := h.hS
  hM := init_M σ
  hA := init_A σ

/-- Folding in the chunk whose scores lie in `b`; the other buffer keeps what it holds. -/
theorem soft_M {σ : State F B} {qq : FVec F S1x512x128 .bf16} {slot b n : ℕ} {hs : slot < 2} {hb : b < 2} (h : At kc vc x1 f8 σ qq slot b n hs hb)
    (hn : n < 13) : B.arg13.view.readAt (Elt F) rM.toLoadRect (softF σ n b hn hb).f13 = mSt kc qq (n + 1) := by
  rw [softF_M, h.hS, h.hM]; exact (mSt.eq_2 _ _ _).symm

theorem soft_A {σ : State F B} {q : FVec F S1x512x128 .bf16} {b n : ℕ} {hb : b < 2} (hn : n < 13)
    (hv : B.arg11.view.readAt (Elt F) (rV n hn).toLoadRect σ.x11 = vc n)
    (hS : B.arg12.view.readAt (Elt F) (rS b hb).toLoadRect σ.f12 = scoresVal (kc n) q)
    (hM : B.arg13.view.readAt (Elt F) rM.toLoadRect σ.f13 = mSt kc q n)
    (hA : B.arg14.view.readAt (Elt F) rA.toLoadRect σ.f14 = aSt kc vc q n) :
    B.arg14.view.readAt (Elt F) rA.toLoadRect (softF σ n b hn hb).f14 = aSt kc vc q (n + 1) := by
  rw [softF_A, hv, hS, hM, hA]
  exact (aSt.eq_2 _ _ _ _).symm

theorem scores_same (σ : State F B) (slot ch b : ℕ) (hs : slot < 2) (hc : ch < 13) (hb : b < 2) :
    B.arg12.view.readAt (Elt F) (rS b hb).toLoadRect (scoresF σ slot ch b hs hc hb).f12 =
      scoresVal (B.arg10.view.readAt (Elt F) (rK ch hc).toLoadRect σ.x10) (B.arg9.view.readAt (Elt F) (rQ slot hs).toLoadRect σ.f9) :=
  readAt_same _ _ _ _ _

theorem scores_other (σ : State F B) (slot ch b b' : ℕ) (hs : slot < 2) (hc : ch < 13) (hb : b < 2) (hb' : b' < 2) (hne : b ≠ b') :
    B.arg12.view.readAt (Elt F) (rS b hb).toLoadRect (scoresF σ slot ch b' hs hc hb').f12 =
      B.arg12.view.readAt (Elt F) (rS b hb).toLoadRect σ.f12 := by
  refine (readAt_miss B.arg12.view σ.f12 (rS b hb) ⟨rS b' hb', _⟩ [] (0 : Fin 3) rfl rfl ?_).trans (by rw [writes_nil])
  show b + 1 ≤ b' ∨ b' + 1 ≤ b
  omega

theorem At_chunk {σ : State F B} {qq : FVec F S1x512x128 .bf16} {slot b n : ℕ} {hs : slot < 2} {hb : b < 2} (h : At kc vc x1 f8 σ qq slot b n hs hb)
    (b' : ℕ) (hb' : b' < 2) (hne : b ≠ b') (hn : n < 12) :
    At kc vc x1 f8 (chunkF σ slot n b b' hs hn hb hb') qq slot b' (n + 1) hs hb' := by
  have h' : At kc vc x1 f8 (scoresF σ slot (n + 1) b' hs (by omega) hb') qq slot b n hs hb :=
    ⟨⟨h.has.h1, h.has.h8, h.has.hk, h.has.hv⟩, h.hQ, (scores_other σ _ _ _ _ _ _ _ _ hne).trans h.hS, h.hM, h.hA⟩
  refine ⟨⟨h.has.h1, h.has.h8, h.has.hk, h.has.hv⟩, h.hQ, ?_, soft_M h' _, soft_A _ (h'.has.hv n _) h'.hS h'.hM h'.hA⟩
  exact (scores_same σ slot (n + 1) b' hs (by omega) hb').trans (by rw [h.has.hk, h.hQ])

theorem At_chunks {σ : State F B} {qq : FVec F S1x512x128 .bf16} {slot b : ℕ} {hs : slot < 2} {hb : b < 2} (h : Pre kc vc x1 f8 σ qq slot b hs hb)
    (b' : ℕ) (hb' : b' < 2) (hne : b ≠ b') : At kc vc x1 f8 (chunksF σ slot b b' hs hb hb') qq slot b 12 hs hb := by
  have h := At_init h
  have h := At_chunk h b' hb' hne (by omega)
  have h := At_chunk h b hb hne.symm (by omega)
  have h := At_chunk h b' hb' hne (by omega)
  have h := At_chunk h b hb hne.symm (by omega)
  have h := At_chunk h b' hb' hne (by omega)
  have h := At_chunk h b hb hne.symm (by omega)
  have h := At_chunk h b' hb' hne (by omega)
  have h := At_chunk h b hb hne.symm (by omega)
  have h := At_chunk h b' hb' hne (by omega)
  have h := At_chunk h b hb hne.symm (by omega)
  have h := At_chunk h b' hb' hne (by omega)
  exact At_chunk h b hb hne.symm (by omega)

/-- The queries of one tile as they stand in the block of queries. -/
abbrev qRows (x1 : B.arg1.view.ty.Contents (Elt F)) (off : Fin 2 → ℕ) (hoff : ∀ a, off a + S256x128.size a ≤ S16384x128.size a) :
    FVec F S256x128 .bf16 := B.arg1.view.readAt (Elt F) (Rect.unit (s := S16384x128) off S256x128.size hoff).toLoadRect x1

/-- The stacked queries of a tile. -/
abbrev qq (v0 : IVec S256x128 32) (q : FVec F S256x128 .bf16) : FVec F S1x512x128 .bf16 := stackQ (qLow v0 q) (qHigh v0 q)

theorem stack_same (σ : State F B) (v0 : IVec S256x128 32) (off : Fin 2 → ℕ) (hoff : ∀ a, off a + S256x128.size a ≤ S16384x128.size a)
    (slot : ℕ) (hs : slot < 2) :
    B.arg9.view.readAt (Elt F) (rQ slot hs).toLoadRect (stackF σ v0 off hoff slot hs).f9 = qq v0 (qRows σ.x1 off hoff) := by
  funext i
  refine (readAt_apply _ _ _ _).trans ?_
  have h0 : (i 0).val < 1 := (i 0).isLt
  have h1 : (i 1).val < 512 := (i 1).isLt
  have h2 : (i 2).val < 128 := (i 2).isLt
  have e0 : (((rQ slot hs).emb i) 0).val = slot + 1 * (i 0).val := rfl
  have e1 : (((rQ slot hs).emb i) 1).val = 0 + 1 * (i 1).val := rfl
  have e2 : (((rQ slot hs).emb i) 2).val = 0 + 1 * (i 2).val := rfl
  unfold qq stackQ stackF
  by_cases h : (i 1).val < 256
  · rw [dif_pos h, View.read_writes_cons_miss_of_axis _ _ _ _ _ (1 : Fin 3) 256 256 rfl rfl rfl (by left; rw [e1]; omega)]
    refine View.read_writes_cons_hit_of_coords _ _ _ _ _ _ _ fun a => ?_
    match a with
    | 0 => show _ = slot + 1 * 0; rw [e0]; omega
    | 1 => exact e1.trans (show 0 + 1 * (i 1).val = 256 * 0 + 1 * (i 1).val by omega)
    | 2 => exact e2
  · rw [dif_neg h]
    refine View.read_writes_cons_hit_of_coords _ _ _ _ _ _ _ fun a => ?_
    match a with
    | 0 => show _ = slot + 1 * 0; rw [e0]; omega
    | 1 => exact e1.trans (show 0 + 1 * (i 1).val = 256 * 1 + 1 * ((i 1).val - 256) by omega)
    | 2 => exact e2

theorem finF_f8 (σ : State F B) (lam : FVec F S1x1 .f32) (gain : FVec F S1x128 .f32) (off : Fin 2 → ℕ)
    (hoff : ∀ a, off a + S256x128.size a ≤ S16384x128.size a) : (finF σ lam gain off hoff).f8 =
      B.arg8.view.writes (Elt F) σ.f8 [⟨Rect.unit (s := S16384x128) off S256x128.size hoff,
        outVal lam gain (B.arg14.view.readAt (Elt F) rA.toLoadRect σ.f14)⟩] := rfl

/-- A tile: its result stored, the next tile's queries stacked and its first scores computed. -/
theorem tile_post {σ : State F B} {q : FVec F S1x512x128 .bf16} {slot b : ℕ} {hs : slot < 2} {hb : b < 2} (h : Pre kc vc x1 f8 σ q slot b hs hb)
    (v0 : IVec S256x128 32) (lam : FVec F S1x1 .f32) (gain : FVec F S1x128 .f32)
    (off : Fin 2 → ℕ) (hoff : ∀ a, off a + S256x128.size a ≤ S16384x128.size a)
    (offn : Fin 2 → ℕ) (hoffn : ∀ a, offn a + S256x128.size a ≤ S16384x128.size a)
    (slot' : ℕ) (hs' : slot' < 2) (b' : ℕ) (hb' : b' < 2) (hne : b ≠ b') :
    Pre kc vc x1 (B.arg8.view.writes (Elt F) f8 [⟨Rect.unit (s := S16384x128) off S256x128.size hoff, outVal lam gain (aSt kc vc q 13)⟩])
      (tileF σ v0 lam gain off hoff offn hoffn slot slot' hs hs' b b' hb hb') (qq v0 (qRows x1 offn hoffn)) slot' b' hs' hb' := by
  have h12 := At_chunks h b' hb' hne
  unfold tileF
  generalize chunksF σ slot b b' hs hb hb' = σ' at *
  have hS := (scores_other (stackF σ' v0 offn hoffn slot' hs') slot' 0 b b' hs' (by omega) hb hb' hne).trans h12.hS
  have hA : B.arg14.view.readAt (Elt F) rA.toLoadRect
      (softF (scoresF (stackF σ' v0 offn hoffn slot' hs') slot' 0 b' hs' (by omega) hb') 12 b (by omega) hb).f14 = aSt kc vc q 13 :=
    soft_A (by omega) (h12.has.hv 12 (by omega)) hS h12.hM h12.hA
  have hq : B.arg9.view.readAt (Elt F) (rQ slot' hs').toLoadRect (stackF σ' v0 offn hoffn slot' hs').f9 = qq v0 (qRows x1 offn hoffn) :=
    (stack_same _ v0 offn hoffn slot' hs').trans (by rw [h12.has.h1])
  refine ⟨⟨h12.has.h1, ?_, h12.has.hk, h12.has.hv⟩, hq, ?_⟩
  · refine (finF_f8 _ _ _ _ _).trans ?_
    rw [hA]
    exact congrArg (fun x => B.arg8.view.writes (Elt F) x _) h12.has.h8
  · refine (scores_same _ slot' 0 b' hs' (by omega) hb').trans ?_
    congr 1
    exact h12.has.hk 0 (by omega)

end Cert.KernelIdeal.Attn
-- ==== Proof.AttnSplit.lean ====
/- The region of the kernel's loop is two tiles. -/
module

public import proofs.«01_k».proof.Proof.AttnOps

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI Idealize.SL.Sem
open Cert.KernelIdeal Cert.KernelIdeal.Gen

variable {F : FTy → Type} [FloatOps F]

/-- A trip of the loop: an even tile out of slot 0, then an odd one out of slot 1. -/
theorem body_eq (i : grid0.Coords) (arg1 : Memref sig .tc .vmem S16384x128 .bf16) (harg1 : arg1.IsWhole) (arg2 : Memref sig .tc .vmem S8x128 .f32) (harg2 : arg2.IsWhole) (arg3 : Memref sig .tc .vmem S1x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S16384x128 .bf16) (harg8 : arg8.IsWhole) (arg9 : Memref sig .tc .vmem S2x512x128 .bf16) (harg9 : arg9.IsWhole) (arg10 : Memref sig .tc .vmem S16640x128 .bf16) (harg10 : arg10.IsWhole) (arg11 : Memref sig .tc .vmem S144x16640 .bf16) (harg11 : arg11.IsWhole) (arg12 : Memref sig .tc .vmem S2x1280x512 .f32) (harg12 : arg12.IsWhole) (arg13 : Memref sig .tc .vmem S1x512 .f32) (harg13 : arg13.IsWhole) (arg14 : Memref sig .tc .vmem S144x512 .f32) (harg14 : arg14.IsWhole) (v0 : IVec S256x128 32) (v17 : FVec F S1x1 .f32) (v21 : FVec F S1x128 .f32) (k : Fin k0_t1_loop.trips) :
    k0_t1_body i arg1 harg1 arg2 harg2 arg3 harg3 arg4 harg4 arg5 harg5 arg6 harg6 arg7 harg7 arg8 harg8 arg9 harg9 arg10 harg10 arg11 harg11 arg12 harg12 arg13 harg13 arg14 harg14 v0 v17 v21 k ⟨⟩ =
      (do
        tileP arg1 arg8 harg8 arg9 harg9 arg10 arg11 arg12 arg13 arg14 v0 v17 v21 (k0_off2 k) (k0_off2_inb k) (k0_off2_packedbf16 k)
          (k0_off1 k) (k0_off1_inb k) 0 1 (by omega) (by omega) (packedQ 1 (by omega)) 0 1 (by omega) (by omega)
        tileP arg1 arg8 harg8 arg9 harg9 arg10 arg11 arg12 arg13 arg14 v0 v17 v21 (k0_off1 k) (k0_off1_inb k) (k0_off1_packedbf16 k)
          (k0_off3 k) (k0_off3_inb k) 1 0 (by omega) (by omega) (packedQ 0 (by omega)) 1 0 (by omega) (by omega)
        pure ⟨⟩) := rfl

end Cert.KernelIdeal.Attn
-- ==== Proof.AttnLoop.lean ====
/- The loop over the tiles: one trip, all trips, and what they leave in the result. -/
module

public import proofs.«01_k».proof.Proof.AttnState
public import proofs.«01_k».proof.Proof.AttnSplit

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F] {B : Bufs} (c : Dev nD) (𝒱 : Variants) (bd : Option 𝒱.V) (E : Set ℕ)

/-! ## The run -/

theorem wp_trip (σ : State F B) (i : grid0.Coords) (harg1 : B.arg1.IsWhole) (arg2 : Memref sig .tc .vmem S8x128 .f32) (harg2 : arg2.IsWhole) (arg3 : Memref sig .tc .vmem S1x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x128 .bf16) (harg6 : arg6.IsWhole) (arg7 : Memref sig .tc .vmem S256x128 .bf16) (harg7 : arg7.IsWhole) (harg10 : B.arg10.IsWhole) (harg11 : B.arg11.IsWhole) (harg12 : B.arg12.IsWhole) (harg13 : B.arg13.IsWhole) (harg14 : B.arg14.IsWhole) (v0 : IVec S256x128 32) (v17 : FVec F S1x1 .f32) (v21 : FVec F S1x128 .f32) (k : Fin k0_t1_loop.trips) :
    St B c σ ⊢ wp frame (wpE (defs₀ (F := F)) 𝒱 (c : Thread nD τ) bd) E (k0_t1_body i B.arg1 harg1 arg2 harg2 arg3 harg3 arg4 harg4 arg5 harg5 arg6 harg6 arg7 harg7 B.arg8 B.harg8 B.arg9 B.harg9 B.arg10 harg10 B.arg11 harg11 B.arg12 harg12 B.arg13 harg13 B.arg14 harg14 v0 v17 v21 k ⟨⟩)
      (fun _ => St B c (tripF σ v0 v17 v21 k)) := by
  rw [body_eq]
  refine wp_seq c 𝒱 bd E (wp_tile c 𝒱 bd E _ _ _ _ _ _ _ _ _ _ _ _ _ _ _ _ _ _) ?_
  refine wp_seq c 𝒱 bd E (wp_tile c 𝒱 bd E _ _ _ _ _ _ _ _ _ _ _ _ _ _ _ _ _ _) ?_
  rw [wp_pure]
  exact fupd_intro

theorem wp_loop (σ : State F B) (i : grid0.Coords) (harg1 : B.arg1.IsWhole) (arg2 : Memref sig .tc .vmem S8x128 .f32) (harg2 : arg2.IsWhole) (arg3 : Memref sig .tc .vmem S1x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x128 .bf16) (harg6 : arg6.IsWhole) (arg7 : Memref sig .tc .vmem S256x128 .bf16) (harg7 : arg7.IsWhole) (harg10 : B.arg10.IsWhole) (harg11 : B.arg11.IsWhole) (harg12 : B.arg12.IsWhole) (harg13 : B.arg13.IsWhole) (harg14 : B.arg14.IsWhole) (v0 : IVec S256x128 32) (v17 : FVec F S1x1 .f32) (v21 : FVec F S1x128 .f32) :
    St B c σ ⊢ wp frame (wpE (defs₀ (F := F)) 𝒱 (c : Thread nD τ) bd) E
      (Scf.Loop.for k0_t1_loop k0_t1_ok ⟨⟩ (k0_t1_body i B.arg1 harg1 arg2 harg2 arg3 harg3 arg4 harg4 arg5 harg5 arg6 harg6 arg7 harg7 B.arg8 B.harg8 B.arg9 B.harg9 B.arg10 harg10 B.arg11 harg11 B.arg12 harg12 B.arg13 harg13 B.arg14 harg14 v0 v17 v21))
      (fun _ => St B c (loopF σ v0 v17 v21 k0_t1_loop.trips)) := by
  have step : ∀ (k : Fin k0_t1_loop.trips) (acc : Unit), St B c (loopF σ v0 v17 v21 k.val) ⊢
      wp frame (wpE (defs₀ (F := F)) 𝒱 (c : Thread nD τ) bd) E (k0_t1_body i B.arg1 harg1 arg2 harg2 arg3 harg3 arg4 harg4 arg5 harg5 arg6 harg6 arg7 harg7 B.arg8 B.harg8 B.arg9 B.harg9 B.arg10 harg10 B.arg11 harg11 B.arg12 harg12 B.arg13 harg13 B.arg14 harg14 v0 v17 v21 k acc)
        (fun _ => St B c (loopF σ v0 v17 v21 (k.val + 1))) := by
    intro k acc
    have e : loopF σ v0 v17 v21 (k.val + 1) = tripF (loopF σ v0 v17 v21 k.val) v0 v17 v21 k := by
      rw [loopF, dif_pos k.isLt]
    rw [e]
    exact wp_trip c 𝒱 bd E _ i harg1 arg2 harg2 arg3 harg3 arg4 harg4 arg5 harg5 arg6 harg6 arg7 harg7 harg10 harg11 harg12 harg13 harg14 v0 v17 v21 k
  have h := Scf.wp_for frame (fun E => wpE (defs₀ (F := F)) 𝒱 (c : Thread nD τ) bd E) E k0_t1_loop.lb k0_t1_loop.ub k0_t1_loop.st k0_t1_ok ⟨⟩
    (k0_t1_body i B.arg1 harg1 arg2 harg2 arg3 harg3 arg4 harg4 arg5 harg5 arg6 harg6 arg7 harg7 B.arg8 B.harg8 B.arg9 B.harg9 B.arg10 harg10 B.arg11 harg11 B.arg12 harg12 B.arg13 harg13 B.arg14 harg14 v0 v17 v21) (fun k _ => St B c (loopF σ v0 v17 v21 k)) step
    (Q := fun _ => St B c (loopF σ v0 v17 v21 k0_t1_loop.trips))
  refine BIBase.Entails.trans ?_ h
  iintro H
  isplitl [H]
  · iexact H
  · iintro %acc H
    iexact H

/-! ## What the loop leaves -/

/-- The rows of tile `j`. -/
abbrev rO (j : ℕ) (hj : j < 64) : Rect S16384x128 :=
  Rect.unit (s := S16384x128) ![256 * j, 0] S256x128.size (by
    intro a
    match a with
    | 0 => show 256 * j + 256 ≤ 16384; omega
    | 1 => show 0 + 128 ≤ 128; omega)

/-- The queries of tile `j`. -/
def qTile (x1 : B.arg1.view.ty.Contents (Elt F)) (v0 : IVec S256x128 32) (j : ℕ) (hj : j < 64) : FVec F S1x512x128 .bf16 :=
  qq v0 (B.arg1.view.readAt (Elt F) (rO j hj).toLoadRect x1)

theorem qTile_of (x1 : B.arg1.view.ty.Contents (Elt F)) (v0 : IVec S256x128 32) (j : ℕ) (hj : j < 64)
    (off : Fin 2 → ℕ) (hoff : ∀ a, off a + S256x128.size a ≤ S16384x128.size a) (e : off = ![256 * j, 0]) :
    qq v0 (qRows x1 off hoff) = qTile x1 v0 j hj := by
  subst e; rfl

theorem block_same (f : B.arg8.view.ty.Contents (Elt F)) (w : FVec F S256x128 .bf16) (j : ℕ) (hj : j < 64)
    (off : Fin 2 → ℕ) (hoff : ∀ a, off a + S256x128.size a ≤ S16384x128.size a) (e : off = ![256 * j, 0]) :
    B.arg8.view.readAt (Elt F) (rO j hj).toLoadRect (B.arg8.view.writes (Elt F) f [⟨Rect.unit (s := S16384x128) off S256x128.size hoff, w⟩]) = w := by
  subst e; exact readAt_same _ _ _ _ _

attribute [local irreducible] View.writes View.readAt

theorem block_miss (f : B.arg8.view.ty.Contents (Elt F)) (w : FVec F S256x128 .bf16) (j j' : ℕ) (hj : j < 64) (hne : j ≠ j')
    (off : Fin 2 → ℕ) (hoff : ∀ a, off a + S256x128.size a ≤ S16384x128.size a) (e : off = ![256 * j', 0]) :
    B.arg8.view.readAt (Elt F) (rO j hj).toLoadRect (B.arg8.view.writes (Elt F) f [⟨Rect.unit (s := S16384x128) off S256x128.size hoff, w⟩]) =
      B.arg8.view.readAt (Elt F) (rO j hj).toLoadRect f := by
  subst e
  refine (readAt_miss B.arg8.view f (rO j hj) ⟨Rect.unit (s := S16384x128) ![256 * j', 0] S256x128.size hoff, w⟩ [] (0 : Fin 2) rfl rfl ?_).trans (by rw [writes_nil])
  show 256 * j + 256 ≤ 256 * j' ∨ 256 * j' + 256 ≤ 256 * j
  omega

variable (kc : ℕ → FVec F S1280x128 .bf16) (vc : ℕ → FVec F S144x1280 .bf16) (x1 : B.arg1.view.ty.Contents (Elt F))

/-- Before trip `k`: tile `2 k` is prepared, the tiles before it are done. -/
structure Inv (v0 : IVec S256x128 32) (lam : FVec F S1x1 .f32) (gain : FVec F S1x128 .f32) (k : ℕ) (σ : State F B) : Prop where
  pre : Pre kc vc x1 σ.f8 σ (qTile x1 v0 (min (2 * k) 63) (by omega)) 0 0 (by omega) (by omega)
  done : ∀ j (hj : j < 64), j < 2 * k →
    B.arg8.view.readAt (Elt F) (rO j hj).toLoadRect σ.f8 = outVal lam gain (aSt kc vc (qTile x1 v0 j hj) 13)

variable {kc vc x1}

theorem Inv_step {v0 : IVec S256x128 32} {lam : FVec F S1x1 .f32} {gain : FVec F S1x128 .f32} {σ : State F B} (k : Fin k0_t1_loop.trips)
    (h : Inv kc vc x1 v0 lam gain k.val σ) : Inv kc vc x1 v0 lam gain (k.val + 1) (tripF σ v0 lam gain k) := by
  have hk : k.val < 32 := Nat.lt_of_lt_of_le k.isLt k0_t1_abs.2.1
  obtain ⟨hp, hd⟩ := h
  have e1 : k0_off1 k = ![256 * (2 * k.val + 1), 0] := by rw [k0_off1_eq]; congr 1; omega
  have e2 : k0_off2 k = ![256 * (2 * k.val), 0] := by rw [k0_off2_eq]; congr 1; omega
  have e3 : k0_off3 k = ![256 * (min (2 * (k.val + 1)) 63), 0] := by rw [k0_off3_eq]; congr 1
  have t1 := tile_post hp v0 lam gain (k0_off2 k) (k0_off2_inb k) (k0_off1 k) (k0_off1_inb k) 1 (by omega) 1 (by omega) (by omega)
  rw [qTile_of x1 v0 (2 * k.val + 1) (by omega) _ _ e1] at t1
  have t2 := tile_post t1 v0 lam gain (k0_off1 k) (k0_off1_inb k) (k0_off3 k) (k0_off3_inb k) 0 (by omega) 0 (by omega) (by omega)
  rw [qTile_of x1 v0 (min (2 * (k.val + 1)) 63) (by omega) _ _ e3] at t2
  unfold tripF
  refine ⟨?_, ?_⟩
  · rw [t2.has.h8]; exact t2
  · intro j hj hlt
    rw [t2.has.h8]
    by_cases hj1 : j = 2 * k.val + 1
    · subst hj1
      rw [block_same _ _ _ _ _ _ e1]
    · rw [block_miss _ _ _ _ _ hj1 _ _ e1]
      by_cases hj0 : j = 2 * k.val
      · subst hj0
        rw [block_same _ _ _ _ _ _ e2]
        have : min (2 * k.val) 63 = 2 * k.val := by omega
        have hq : ∀ n (hn : n < 64), n = 2 * k.val → qTile x1 v0 n hn = qTile x1 v0 (2 * k.val) hj := by
          rintro n hn rfl; rfl
        rw [hq _ _ this]
      · rw [block_miss _ _ _ _ _ hj0 _ _ e2]
        exact hd j hj (by omega)

theorem Inv_loop {v0 : IVec S256x128 32} {lam : FVec F S1x1 .f32} {gain : FVec F S1x128 .f32} {σ : State F B}
    (h : Inv kc vc x1 v0 lam gain 0 σ) : ∀ k, k ≤ k0_t1_loop.trips → Inv kc vc x1 v0 lam gain k (loopF σ v0 lam gain k)
  | 0, _ => h
  | k + 1, hk => by
    rw [loopF, dif_pos (show k < k0_t1_loop.trips by omega)]
    exact Inv_step ⟨k, by omega⟩ (Inv_loop h k (by omega))

theorem trips_eq : k0_t1_loop.trips = 32 := by decide

/-- After the loop every tile of the result is done. -/
theorem loop_done {v0 : IVec S256x128 32} {lam : FVec F S1x1 .f32} {gain : FVec F S1x128 .f32} {σ : State F B}
    (h : Inv kc vc x1 v0 lam gain 0 σ) (j : ℕ) (hj : j < 64) :
    B.arg8.view.readAt (Elt F) (rO j hj).toLoadRect (loopF σ v0 lam gain k0_t1_loop.trips).f8 =
      outVal lam gain (aSt kc vc (qTile x1 v0 j hj) 13) :=
  (Inv_loop h _ le_rfl).done j hj (by rw [trips_eq]; omega)

end Cert.KernelIdeal.Attn
-- ==== Proof.AttnFill.lean ====
/- The start of a program: keys and values gathered into the two work arrays, the first tile's queries and scores. -/
module

public import proofs.«01_k».proof.Proof.AttnLoop

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F]

/-! ## The copies as programs -/

section copy
variable {ss : Shape} (src srcv : Memref sig .tc .vmem ss .bf16)
  (arg10 : Memref sig .tc .vmem S16640x128 .bf16) (harg10 : arg10.IsWhole) (arg11 : Memref sig .tc .vmem S144x16640 .bf16) (harg11 : arg11.IsWhole)

/-- Rows of keys into the work array of keys, the same rows of values turned into the work array of values. -/
def copyP (ro : Rect ss) (rd : Rect S16640x128) (rt : Rect S144x16640)
    (kv : (ro.shape.Idx → Elt F .bf16) → rd.shape.Idx → Elt F .bf16) (vv : (ro.shape.Idx → Elt F .bf16) → rt.shape.Idx → Elt F .bf16)
    (ho : 0 < ro.shape.numel) (hd : 0 < rd.shape.numel) (ht : 0 < rt.shape.numel)
    (hpd : rd.PackedRows (EltTy.packing .bf16)) (hpt : rt.PackedRows (EltTy.packing .bf16)) : KProg F Unit := do
  let x : ro.shape.Idx → Elt F .bf16 ← Prog.lift (.load src ro.toLoadRect (View.loadsAt_vmem ho))
  let _ : rd.shape.Idx → Elt F .bf16 ← Prog.lift (.load arg10 rd.toLoadRect (View.loadsAt_vmem hd))
  Prog.lift (.store arg10 rd (kv x) Finset.univ (View.stores_vmem hd (harg10.storeExact_slice rfl _ hpd) (fun _ => rfl)) (.inl rfl))
  let y : ro.shape.Idx → Elt F .bf16 ← Prog.lift (.load srcv ro.toLoadRect (View.loadsAt_vmem ho))
  let _ : rt.shape.Idx → Elt F .bf16 ← Prog.lift (.load arg11 rt.toLoadRect (View.loadsAt_vmem ht))
  Prog.lift (.store arg11 rt (vv y) Finset.univ (View.stores_vmem ht (harg11.storeExact_slice rfl _ hpt) (fun _ => rfl)) (.inl rfl))

end copy

/-- Rows `o` to `o + n` of an array of rows, and the same columns of the work array of values. -/
abbrev rRows {m : ℕ} (o n : ℕ) (h : o + n ≤ m) : Rect ⟨2, ![m, 128]⟩ :=
  Rect.unit (s := ⟨2, ![m, 128]⟩) ![o, 0] ![n, 128] (by
    intro a
    match a with
    | 0 => exact h
    | 1 => exact le_refl 128)

abbrev rCols (o n : ℕ) (h : o + n ≤ 16640) : Rect S144x16640 :=
  Rect.unit (s := S144x16640) ![0, o] ![128, n] (by
    intro a
    match a with
    | 0 => show 0 + 128 ≤ 144; omega
    | 1 => exact h)

abbrev rOnes : Rect S144x16640 := Rect.unit (s := S144x16640) ![128, 0] S16x16640.size inb_S144x16640_S16x16640_128_0

theorem packedRows {m : ℕ} (o n : ℕ) (h : o + n ≤ m) (ho : 2 ∣ o) (hn : 2 ∣ n) : (rRows (m := m) o n h).PackedRows (EltTy.packing .bf16) :=
  Or.inr ⟨le_refl 2, rfl, Or.inl ⟨ho, hn⟩⟩

theorem packedCols (o n : ℕ) (h : o + n ≤ 16640) : (rCols o n h).PackedRows (EltTy.packing .bf16) :=
  Or.inr ⟨le_refl 2, rfl, Or.inl ⟨⟨0, rfl⟩, ⟨64, rfl⟩⟩⟩

section fill
variable (arg4 arg5 : Memref sig .tc .vmem S16384x128 .bf16) (arg6 arg7 : Memref sig .tc .vmem S256x128 .bf16)
  (arg10 : Memref sig .tc .vmem S16640x128 .bf16) (harg10 : arg10.IsWhole) (arg11 : Memref sig .tc .vmem S144x16640 .bf16) (harg11 : arg11.IsWhole)

/-- Rows `1280 n` to `1280 (n + 1)`. -/
def copyA (n : ℕ) (hn : n < 12) : KProg F Unit :=
  copyP arg4 arg5 arg10 harg10 arg11 harg11 (rRows (1280 * n) 1280 (by omega)) (rRows (1280 * n) 1280 (by omega)) (rCols (1280 * n) 1280 (by omega))
    (k0_pay177 (F := F)) (k0_pay178 (F := F)) h_S1280x128 h_S1280x128 h_S128x1280 (packedRows _ _ _ ⟨640 * n, by omega⟩ ⟨640, rfl⟩) (packedCols _ _ _)

/-- The last rows of the first sequence. -/
def copyB : KProg F Unit :=
  copyP arg4 arg5 arg10 harg10 arg11 harg11 (rRows 15360 1024 (by omega)) (rRows 15360 1024 (by omega)) (rCols 15360 1024 (by omega))
    (k0_pay204 (F := F)) (k0_pay205 (F := F)) h_S1024x128 h_S1024x128 h_S128x1024 (packedRows _ _ _ ⟨7680, rfl⟩ ⟨512, rfl⟩) (packedCols _ _ _)

/-- The second sequence. -/
def copyC : KProg F Unit :=
  copyP arg6 arg7 arg10 harg10 arg11 harg11 (rRows 0 256 (by omega)) (rRows 16384 256 (by omega)) (rCols 16384 256 (by omega))
    (k0_pay206 (F := F)) (k0_pay207 (F := F)) h_S256x128 h_S256x128 h_S128x256 (packedRows _ _ _ ⟨8192, rfl⟩ ⟨128, rfl⟩) (packedCols _ _ _)

/-- The rows of ones below the values. -/
def onesP : KProg F Unit := do
  let _ : Vec F S16x16640 .bf16 ← Prog.lift (.load arg11 rOnes.toLoadRect (View.loadsAt_vmem h_S16x16640))
  Prog.lift (.store arg11 rOnes (k0_pay208 (F := F)) Finset.univ (View.stores_vmem h_S16x16640 (harg11.storeExact_slice rfl _ packedbf16_S144x16640_S16x16640_128_0) (fun _ => rfl)) (.inl rfl))

/-- All the copies. -/
def fillP : KProg F Unit := do
  copyA arg4 arg5 arg10 harg10 arg11 harg11 0 (by omega)
  copyA arg4 arg5 arg10 harg10 arg11 harg11 1 (by omega)
  copyA arg4 arg5 arg10 harg10 arg11 harg11 2 (by omega)
  copyA arg4 arg5 arg10 harg10 arg11 harg11 3 (by omega)
  copyA arg4 arg5 arg10 harg10 arg11 harg11 4 (by omega)
  copyA arg4 arg5 arg10 harg10 arg11 harg11 5 (by omega)
  copyA arg4 arg5 arg10 harg10 arg11 harg11 6 (by omega)
  copyA arg4 arg5 arg10 harg10 arg11 harg11 7 (by omega)
  copyA arg4 arg5 arg10 harg10 arg11 harg11 8 (by omega)
  copyA arg4 arg5 arg10 harg10 arg11 harg11 9 (by omega)
  copyA arg4 arg5 arg10 harg10 arg11 harg11 10 (by omega)
  copyA arg4 arg5 arg10 harg10 arg11 harg11 11 (by omega)
  copyB arg4 arg5 arg10 harg10 arg11 harg11
  copyC arg6 arg7 arg10 harg10 arg11 harg11
  onesP arg11 harg11

end fill

/-- The lanes' numbers. -/
abbrev lanes : IVec S256x128 32 := iota .tc S256x128 32 [1] iota_S256x128_d1_w32

/-- The program of one head: the two small loads, the copies, the first tile's queries and scores, the loop. -/
theorem whole_eq (i : grid0.Coords) (arg1 : Memref sig .tc .vmem S16384x128 .bf16) (harg1 : arg1.IsWhole) (arg2 : Memref sig .tc .vmem S8x128 .f32) (harg2 : arg2.IsWhole) (arg3 : Memref sig .tc .vmem S1x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S16384x128 .bf16) (harg8 : arg8.IsWhole) (arg9 : Memref sig .tc .vmem S2x512x128 .bf16) (harg9 : arg9.IsWhole) (arg10 : Memref sig .tc .vmem S16640x128 .bf16) (harg10 : arg10.IsWhole) (arg11 : Memref sig .tc .vmem S144x16640 .bf16) (harg11 : arg11.IsWhole) (arg12 : Memref sig .tc .vmem S2x1280x512 .f32) (harg12 : arg12.IsWhole) (arg13 : Memref sig .tc .vmem S1x512 .f32) (harg13 : arg13.IsWhole) (arg14 : Memref sig .tc .vmem S144x512 .f32) (harg14 : arg14.IsWhole) :
    cc0_diff_attn (F := F) i arg1 harg1 arg2 harg2 arg3 harg3 arg4 harg4 arg5 harg5 arg6 harg6 arg7 harg7 arg8 harg8 arg9 harg9 arg10 harg10 arg11 harg11 arg12 harg12 arg13 harg13 arg14 harg14 =
      (do
        let x2 : Vec F S8x128 .f32 ← Prog.lift (.load arg2 (Rect.unit (s := S8x128) ![0, 0] S8x128.size inb_S8x128_S8x128_0_0).toLoadRect (View.loadsAt_vmem h_S8x128))
        let x3 : Vec F S1x128 .f32 ← Prog.lift (.load arg3 (Rect.unit (s := S1x128) ![0, 0] S1x128.size inb_S1x128_S1x128_0_0).toLoadRect (View.loadsAt_vmem h_S1x128))
        fillP arg4 arg5 arg6 arg7 arg10 harg10 arg11 harg11
        stackP arg1 arg9 harg9 lanes ![0, 0] inb_S16384x128_S256x128_0_0 0 (by omega) (packedQ 0 (by omega))
        scoresP arg9 arg10 arg12 0 0 0 (by omega) (by omega) (by omega)
        Scf.Loop.for k0_t1_loop k0_t1_ok ⟨⟩ (k0_t1_body i arg1 harg1 arg2 harg2 arg3 harg3 arg4 harg4 arg5 harg5 arg6 harg6 arg7 harg7 arg8 harg8 arg9 harg9 arg10 harg10 arg11 harg11 arg12 harg12 arg13 harg13 arg14 harg14 lanes (k0_pay175 x2) (k0_pay176 x3))
        pure ⟨⟩) := rfl

end Cert.KernelIdeal.Attn
-- ==== Proof.AttnCopy.lean ====
/- The copies run: what they leave in the two work arrays, whatever those held before. -/
module

public import proofs.«01_k».proof.Proof.AttnFill

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F]

local notation "𝕄" => MT nD τ sig Unit (Elt F) ℕ (UR sig nD τ) ℕ

/-- The buffers the copies read and write. -/
structure CBufs where
  arg4 : Memref sig .tc .vmem S16384x128 .bf16
  arg5 : Memref sig .tc .vmem S16384x128 .bf16
  arg6 : Memref sig .tc .vmem S256x128 .bf16
  arg7 : Memref sig .tc .vmem S256x128 .bf16
  arg10 : Memref sig .tc .vmem S16640x128 .bf16
  arg11 : Memref sig .tc .vmem S144x16640 .bf16
  harg10 : arg10.IsWhole
  harg11 : arg11.IsWhole

/-- The contents of the sources. -/
structure CSrc (F : FTy → Type) [FloatOps F] (B : CBufs) where
  x4 : B.arg4.view.ty.Contents (Elt F)
  x5 : B.arg5.view.ty.Contents (Elt F)
  x6 : B.arg6.view.ty.Contents (Elt F)
  x7 : B.arg7.view.ty.Contents (Elt F)

variable (B : CBufs) (c : Dev nD) (s : CSrc F B)

/-- The sources are held, and the work arrays at these contents. -/
abbrev Cs (f10 : B.arg10.view.ty.Contents (Elt F)) (f11 : B.arg11.view.ty.Contents (Elt F)) : sProp 𝕄 :=
  iprop((B.arg4.view.loc (c : Thread nD τ) ↦[B.arg4.view.set]{fullShare} s.x4) ∗ (B.arg5.view.loc (c : Thread nD τ) ↦[B.arg5.view.set]{fullShare} s.x5)
    ∗ (B.arg6.view.loc (c : Thread nD τ) ↦[B.arg6.view.set]{fullShare} s.x6) ∗ (B.arg7.view.loc (c : Thread nD τ) ↦[B.arg7.view.set]{fullShare} s.x7)
    ∗ (B.arg10.view.loc (c : Thread nD τ) ↦[B.arg10.view.set]{fullShare} f10) ∗ (B.arg11.view.loc (c : Thread nD τ) ↦[B.arg11.view.set]{fullShare} f11))

variable {B}

/-- The keys' and the values' pieces that the copies write. -/
abbrev kA (n : ℕ) (hn : n < 12) : View.Piece (Elt F) S16640x128 .bf16 :=
  ⟨rRows (1280 * n) 1280 (by omega), k0_pay177 (B.arg4.view.readAt (Elt F) (rRows (1280 * n) 1280 (by omega)).toLoadRect s.x4)⟩
abbrev vA (n : ℕ) (hn : n < 12) : View.Piece (Elt F) S144x16640 .bf16 :=
  ⟨rCols (1280 * n) 1280 (by omega), k0_pay178 (B.arg5.view.readAt (Elt F) (rRows (1280 * n) 1280 (by omega)).toLoadRect s.x5)⟩
abbrev kB : View.Piece (Elt F) S16640x128 .bf16 :=
  ⟨rRows 15360 1024 (by omega), k0_pay204 (B.arg4.view.readAt (Elt F) (rRows 15360 1024 (by omega)).toLoadRect s.x4)⟩
abbrev vB : View.Piece (Elt F) S144x16640 .bf16 :=
  ⟨rCols 15360 1024 (by omega), k0_pay205 (B.arg5.view.readAt (Elt F) (rRows 15360 1024 (by omega)).toLoadRect s.x5)⟩
abbrev kC : View.Piece (Elt F) S16640x128 .bf16 :=
  ⟨rRows 16384 256 (by omega), k0_pay206 (B.arg6.view.readAt (Elt F) (rRows 0 256 (by omega)).toLoadRect s.x6)⟩
abbrev vC : View.Piece (Elt F) S144x16640 .bf16 :=
  ⟨rCols 16384 256 (by omega), k0_pay207 (B.arg7.view.readAt (Elt F) (rRows 0 256 (by omega)).toLoadRect s.x7)⟩
abbrev vO : View.Piece (Elt F) S144x16640 .bf16 := ⟨rOnes, k0_pay208 (F := F)⟩

variable (𝒱 : Variants) (bd : Option 𝒱.V) (E : Set ℕ)
  (f10 : B.arg10.view.ty.Contents (Elt F)) (f11 : B.arg11.view.ty.Contents (Elt F))

theorem wp_copyA (n : ℕ) (hn : n < 12) :
    Cs B c s f10 f11 ⊢ wp frame (wpE (defs₀ (F := F)) 𝒱 (c : Thread nD τ) bd) E (copyA B.arg4 B.arg5 B.arg10 B.harg10 B.arg11 B.harg11 n hn)
      (fun _ => Cs B c s (B.arg10.view.writes (Elt F) f10 [kA s n hn]) (B.arg11.view.writes (Elt F) f11 [vA s n hn])) := by
  unfold copyA copyP
  iintro ⟨H4, H5, H6, H7, H10, H11⟩
  sl_exec
  sl_step
  sl_close

theorem wp_copyB :
    Cs B c s f10 f11 ⊢ wp frame (wpE (defs₀ (F := F)) 𝒱 (c : Thread nD τ) bd) E (copyB B.arg4 B.arg5 B.arg10 B.harg10 B.arg11 B.harg11)
      (fun _ => Cs B c s (B.arg10.view.writes (Elt F) f10 [kB s]) (B.arg11.view.writes (Elt F) f11 [vB s])) := by
  unfold copyB copyP
  iintro ⟨H4, H5, H6, H7, H10, H11⟩
  sl_exec
  sl_step
  sl_close

theorem wp_copyC :
    Cs B c s f10 f11 ⊢ wp frame (wpE (defs₀ (F := F)) 𝒱 (c : Thread nD τ) bd) E (copyC B.arg6 B.arg7 B.arg10 B.harg10 B.arg11 B.harg11)
      (fun _ => Cs B c s (B.arg10.view.writes (Elt F) f10 [kC s]) (B.arg11.view.writes (Elt F) f11 [vC s])) := by
  unfold copyC copyP
  iintro ⟨H4, H5, H6, H7, H10, H11⟩
  sl_exec
  sl_step
  sl_close

theorem wp_ones :
    Cs B c s f10 f11 ⊢ wp frame (wpE (defs₀ (F := F)) 𝒱 (c : Thread nD τ) bd) E (onesP B.arg11 B.harg11)
      (fun _ => Cs B c s f10 (B.arg11.view.writes (Elt F) f11 [vO])) := by
  unfold onesP
  iintro ⟨H4, H5, H6, H7, H10, H11⟩
  sl_exec
  sl_step
  sl_close

/-- The pieces, the last written first. -/
abbrev kPieces : List (View.Piece (Elt F) S16640x128 .bf16) :=
  [kC s, kB s, kA s 11 (by omega), kA s 10 (by omega), kA s 9 (by omega), kA s 8 (by omega), kA s 7 (by omega), kA s 6 (by omega),
    kA s 5 (by omega), kA s 4 (by omega), kA s 3 (by omega), kA s 2 (by omega), kA s 1 (by omega), kA s 0 (by omega)]
abbrev vPieces : List (View.Piece (Elt F) S144x16640 .bf16) :=
  [vO, vC s, vB s, vA s 11 (by omega), vA s 10 (by omega), vA s 9 (by omega), vA s 8 (by omega), vA s 7 (by omega), vA s 6 (by omega),
    vA s 5 (by omega), vA s 4 (by omega), vA s 3 (by omega), vA s 2 (by omega), vA s 1 (by omega), vA s 0 (by omega)]

theorem writes_two {sg : RefSig} {κ : Kind} {sp : Space} {s : Shape} {e : EltTy} {Val : EltTy → Type} (v : View sg κ sp s e) (f : v.ty.Contents Val)
    (p : View.Piece Val s e) (L : List (View.Piece Val s e)) : v.writes Val (v.writes Val f L) [p] = v.writes Val f (p :: L) := rfl

variable (Lk : List (View.Piece (Elt F) S16640x128 .bf16)) (Lv : List (View.Piece (Elt F) S144x16640 .bf16))

theorem wp_copyA' (n : ℕ) (hn : n < 12) :
    Cs B c s (B.arg10.view.writes (Elt F) f10 Lk) (B.arg11.view.writes (Elt F) f11 Lv) ⊢
      wp frame (wpE (defs₀ (F := F)) 𝒱 (c : Thread nD τ) bd) E (copyA B.arg4 B.arg5 B.arg10 B.harg10 B.arg11 B.harg11 n hn)
      (fun _ => Cs B c s (B.arg10.view.writes (Elt F) f10 (kA s n hn :: Lk)) (B.arg11.view.writes (Elt F) f11 (vA s n hn :: Lv))) := by
  rw [← writes_two, ← writes_two]
  exact wp_copyA c s 𝒱 bd E _ _ n hn

theorem wp_copyB' :
    Cs B c s (B.arg10.view.writes (Elt F) f10 Lk) (B.arg11.view.writes (Elt F) f11 Lv) ⊢
      wp frame (wpE (defs₀ (F := F)) 𝒱 (c : Thread nD τ) bd) E (copyB B.arg4 B.arg5 B.arg10 B.harg10 B.arg11 B.harg11)
      (fun _ => Cs B c s (B.arg10.view.writes (Elt F) f10 (kB s :: Lk)) (B.arg11.view.writes (Elt F) f11 (vB s :: Lv))) := by
  rw [← writes_two, ← writes_two]
  exact wp_copyB c s 𝒱 bd E _ _

theorem wp_copyC' :
    Cs B c s (B.arg10.view.writes (Elt F) f10 Lk) (B.arg11.view.writes (Elt F) f11 Lv) ⊢
      wp frame (wpE (defs₀ (F := F)) 𝒱 (c : Thread nD τ) bd) E (copyC B.arg6 B.arg7 B.arg10 B.harg10 B.arg11 B.harg11)
      (fun _ => Cs B c s (B.arg10.view.writes (Elt F) f10 (kC s :: Lk)) (B.arg11.view.writes (Elt F) f11 (vC s :: Lv))) := by
  rw [← writes_two, ← writes_two]
  exact wp_copyC c s 𝒱 bd E _ _

theorem wp_ones' :
    Cs B c s (B.arg10.view.writes (Elt F) f10 Lk) (B.arg11.view.writes (Elt F) f11 Lv) ⊢
      wp frame (wpE (defs₀ (F := F)) 𝒱 (c : Thread nD τ) bd) E (onesP B.arg11 B.harg11)
      (fun _ => Cs B c s (B.arg10.view.writes (Elt F) f10 Lk) (B.arg11.view.writes (Elt F) f11 (vO :: Lv))) := by
  rw [← writes_two]
  exact wp_ones c s 𝒱 bd E _ _

/-- All the copies: the pieces written over what the work arrays held. -/
theorem wp_fill :
    Cs B c s (B.arg10.view.writes (Elt F) f10 []) (B.arg11.view.writes (Elt F) f11 []) ⊢ wp frame (wpE (defs₀ (F := F)) 𝒱 (c : Thread nD τ) bd) E
      (fillP B.arg4 B.arg5 B.arg6 B.arg7 B.arg10 B.harg10 B.arg11 B.harg11)
      (fun _ => Cs B c s (B.arg10.view.writes (Elt F) f10 (kPieces s)) (B.arg11.view.writes (Elt F) f11 (vPieces s))) := by
  unfold fillP
  iterate 12 refine wp_seq c 𝒱 bd E (wp_copyA' c s 𝒱 bd E _ _ _ _ _ _) ?_
  refine wp_seq c 𝒱 bd E (wp_copyB' c s 𝒱 bd E _ _ _ _) ?_
  refine wp_seq c 𝒱 bd E (wp_copyC' c s 𝒱 bd E _ _ _ _) ?_
  exact wp_ones' c s 𝒱 bd E _ _ _ _

/-! ## What the work arrays hold -/

/-- The keys of both sequences, one below the other. -/
def kG (X4 : FVec F S16384x128 .bf16) (X6 : FVec F S256x128 .bf16) : FVec F S16640x128 .bf16 := fun y =>
  if h : (y 0).val < 16384 then X4 (ix2 (n0 := 16384) (n1 := 128) ⟨(y 0).val, h⟩ (y 1))
  else X6 (ix2 (n0 := 256) (n1 := 128) ⟨(y 0).val - 16384, by have : (y 0).val < 16640 := (y 0).isLt; omega⟩ (y 1))

/-- A value through the wider format and back. -/
abbrev twice {S : Shape} (X : FVec F S .bf16) : FVec F S .bf16 := truncf .bf16 (extf .f32 X bitsLt_bf16_f32) bitsLt_bf16_f32

/-- The values of both sequences, one after the other, a key's values down a column; below them rows of ones. -/
def vG (X5 : FVec F S16384x128 .bf16) (X7 : FVec F S256x128 .bf16) : FVec F S144x16640 .bf16 := fun y =>
  if h0 : (y 0).val < 128 then
    if h : (y 1).val < 16384 then twice X5 (ix2 (n0 := 16384) (n1 := 128) ⟨(y 1).val, h⟩ ⟨(y 0).val, h0⟩)
    else twice X7 (ix2 (n0 := 256) (n1 := 128) ⟨(y 1).val - 16384, by have : (y 1).val < 16640 := (y 1).isLt; omega⟩ ⟨(y 0).val, h0⟩)
  else Scalar.ofBits .bf16 0x3F80#16

theorem pay178 (X : FVec F S1280x128 .bf16) (a : Fin 128) (b : Fin 1280) : k0_pay178 X (ix2 (n0 := 128) (n1 := 1280) a b) = twice X (ix2 (n0 := 1280) (n1 := 128) b a) := by
  unfold k0_pay178
  pointwise

theorem pay205 (X : FVec F S1024x128 .bf16) (a : Fin 128) (b : Fin 1024) : k0_pay205 X (ix2 (n0 := 128) (n1 := 1024) a b) = twice X (ix2 (n0 := 1024) (n1 := 128) b a) := by
  unfold k0_pay205
  pointwise

theorem pay207 (X : FVec F S256x128 .bf16) (a : Fin 128) (b : Fin 256) : k0_pay207 X (ix2 (n0 := 128) (n1 := 256) a b) = twice X (ix2 (n0 := 256) (n1 := 128) b a) := by
  unfold k0_pay207
  pointwise

theorem pay208 (x : S16x16640.Idx) : k0_pay208 (F := F) x = Scalar.ofBits .bf16 0x3F80#16 := by
  unfold k0_pay208
  exact congrFun (shapeCast_id _ _) x

theorem pay177 (X : FVec F S1280x128 .bf16) : k0_pay177 X = X := by
  unfold k0_pay177
  exact (shapeCast_id _ _).trans (shapeCast_id _ _)

theorem pay204 (X : FVec F S1024x128 .bf16) : k0_pay204 X = X := by
  unfold k0_pay204
  exact (shapeCast_id _ _).trans (shapeCast_id _ _)

theorem pay206 (X : FVec F S256x128 .bf16) : k0_pay206 X = X := by
  unfold k0_pay206
  exact (shapeCast_id _ _).trans (shapeCast_id _ _)

/-- Two indices with the same coordinates. -/
theorem at_ix2 {α : Type} {n0 n1 : ℕ} (X : (⟨2, ![n0, n1]⟩ : Shape).Idx → α) (y : (⟨2, ![n0, n1]⟩ : Shape).Idx) (a : Fin n0) (b : Fin n1)
    (h0 : (y 0).val = a.val) (h1 : (y 1).val = b.val) : X y = X (ix2 a b) :=
  congrArg X (funext fun i => match i with
    | 0 => Fin.ext h0
    | 1 => Fin.ext h1)

theorem kA_piece (n : ℕ) (hn : n < 12) (x : (kA s n hn).1.shape.Idx) :
    (kA s n hn).2 x = kG (B.arg4.view.read (Elt F) s.x4) (B.arg6.view.read (Elt F) s.x6) ((kA s n hn).1.emb x) := by
  have h0 : (x 0).val < 1280 := (x 0).isLt
  have e0 : (((kA s n hn).1.emb x) 0).val = 1280 * n + 1 * (x 0).val := rfl
  refine (congrFun (pay177 (F := F) (B.arg4.view.readAt (Elt F) (rRows (1280 * n) 1280 (by omega)).toLoadRect s.x4)) x).trans ?_
  refine (readAt_apply _ _ _ _).trans ?_
  unfold kG
  rw [dif_pos (by rw [e0]; omega)]
  exact at_ix2 (n0 := 16384) (n1 := 128) _ _ _ _ rfl rfl

theorem kB_piece (x : (kB s).1.shape.Idx) :
    (kB s).2 x = kG (B.arg4.view.read (Elt F) s.x4) (B.arg6.view.read (Elt F) s.x6) ((kB s).1.emb x) := by
  have h0 : (x 0).val < 1024 := (x 0).isLt
  have e0 : (((kB s).1.emb x) 0).val = 15360 + 1 * (x 0).val := rfl
  refine (congrFun (pay204 (F := F) (B.arg4.view.readAt (Elt F) (rRows 15360 1024 (by omega)).toLoadRect s.x4)) x).trans ?_
  refine (readAt_apply _ _ _ _).trans ?_
  unfold kG
  rw [dif_pos (by rw [e0]; omega)]
  exact at_ix2 (n0 := 16384) (n1 := 128) _ _ _ _ rfl rfl

theorem kC_piece (x : (kC s).1.shape.Idx) :
    (kC s).2 x = kG (B.arg4.view.read (Elt F) s.x4) (B.arg6.view.read (Elt F) s.x6) ((kC s).1.emb x) := by
  have e0 : (((kC s).1.emb x) 0).val = 16384 + 1 * (x 0).val := rfl
  refine (congrFun (pay206 (F := F) (B.arg6.view.readAt (Elt F) (rRows 0 256 (by omega)).toLoadRect s.x6)) x).trans ?_
  refine (readAt_apply _ _ _ _).trans ?_
  unfold kG
  rw [dif_neg (by rw [e0]; omega)]
  exact at_ix2 (n0 := 256) (n1 := 128) _ _ _ _ (show 0 + 1 * (x 0).val = 16384 + 1 * (x 0).val - 16384 by omega) rfl

theorem vA_piece (n : ℕ) (hn : n < 12) (x : (vA s n hn).1.shape.Idx) :
    (vA s n hn).2 x = vG (B.arg5.view.read (Elt F) s.x5) (B.arg7.view.read (Elt F) s.x7) ((vA s n hn).1.emb x) := by
  have h0 : (x 0).val < 128 := (x 0).isLt
  have h1 : (x 1).val < 1280 := (x 1).isLt
  have e0 : (((vA s n hn).1.emb x) 0).val = 0 + 1 * (x 0).val := rfl
  have e1 : (((vA s n hn).1.emb x) 1).val = 1280 * n + 1 * (x 1).val := rfl
  refine (at_ix2 (n0 := 128) (n1 := 1280) _ x (x 0) (x 1) rfl rfl).trans ?_
  refine (pay178 _ _ _).trans ?_
  unfold vG
  rw [dif_pos (by rw [e0]; omega), dif_pos (by rw [e1]; omega)]
  exact congrArg (fun v => FloatOps.truncf .bf16 bitsLt_bf16_f32 (FloatOps.extf .f32 bitsLt_bf16_f32 v)) ((readAt_apply _ _ _ _).trans
    (at_ix2 (n0 := 16384) (n1 := 128) _ _ _ _ rfl (show 0 + 1 * (x 0).val = 0 + 1 * (x 0).val from rfl)))

theorem vB_piece (x : (vB s).1.shape.Idx) :
    (vB s).2 x = vG (B.arg5.view.read (Elt F) s.x5) (B.arg7.view.read (Elt F) s.x7) ((vB s).1.emb x) := by
  have h0 : (x 0).val < 128 := (x 0).isLt
  have h1 : (x 1).val < 1024 := (x 1).isLt
  have e0 : (((vB s).1.emb x) 0).val = 0 + 1 * (x 0).val := rfl
  have e1 : (((vB s).1.emb x) 1).val = 15360 + 1 * (x 1).val := rfl
  refine (at_ix2 (n0 := 128) (n1 := 1024) _ x (x 0) (x 1) rfl rfl).trans ?_
  refine (pay205 _ _ _).trans ?_
  unfold vG
  rw [dif_pos (by rw [e0]; omega), dif_pos (by rw [e1]; omega)]
  exact congrArg (fun v => FloatOps.truncf .bf16 bitsLt_bf16_f32 (FloatOps.extf .f32 bitsLt_bf16_f32 v)) ((readAt_apply _ _ _ _).trans
    (at_ix2 (n0 := 16384) (n1 := 128) _ _ _ _ rfl (show 0 + 1 * (x 0).val = 0 + 1 * (x 0).val from rfl)))

theorem vC_piece (x : (vC s).1.shape.Idx) :
    (vC s).2 x = vG (B.arg5.view.read (Elt F) s.x5) (B.arg7.view.read (Elt F) s.x7) ((vC s).1.emb x) := by
  have h0 : (x 0).val < 128 := (x 0).isLt
  have e0 : (((vC s).1.emb x) 0).val = 0 + 1 * (x 0).val := rfl
  have e1 : (((vC s).1.emb x) 1).val = 16384 + 1 * (x 1).val := rfl
  refine (at_ix2 (n0 := 128) (n1 := 256) _ x (x 0) (x 1) rfl rfl).trans ?_
  refine (pay207 _ _ _).trans ?_
  unfold vG
  rw [dif_pos (by rw [e0]; omega), dif_neg (by rw [e1]; omega)]
  exact congrArg (fun v => FloatOps.truncf .bf16 bitsLt_bf16_f32 (FloatOps.extf .f32 bitsLt_bf16_f32 v)) ((readAt_apply _ _ _ _).trans
    (at_ix2 (n0 := 256) (n1 := 128) _ _ _ _ (show 0 + 1 * (x 1).val = 16384 + 1 * (x 1).val - 16384 by omega) (show 0 + 1 * (x 0).val = 0 + 1 * (x 0).val from rfl)))

theorem vO_piece (X5 : FVec F S16384x128 .bf16) (X7 : FVec F S256x128 .bf16) (x : (vO (F := F)).1.shape.Idx) :
    (vO (F := F)).2 x = vG X5 X7 ((vO (F := F)).1.emb x) := by
  have e0 : (((vO (F := F)).1.emb x) 0).val = 128 + 1 * (x 0).val := rfl
  unfold vG
  rw [dif_neg (by rw [e0]; omega)]
  exact pay208 x

/-- Every row lies in one of the copied blocks. -/
theorem block_of (r : ℕ) (h : r < 16640) :
    (∃ n, n < 12 ∧ 1280 * n ≤ r ∧ r < 1280 * n + 1280) ∨ (15360 ≤ r ∧ r < 15360 + 1024) ∨ (16384 ≤ r ∧ r < 16384 + 256) := by
  by_cases h1 : r < 15360
  · exact .inl ⟨r / 1280, by omega, by omega, by omega⟩
  · omega

theorem mem_rRows (o n : ℕ) (h : o + n ≤ 16640) (y : S16640x128.Idx) (h1 : o ≤ (y 0).val) (h2 : (y 0).val < o + n) : y ∈ (rRows (m := 16640) o n h).set := by
  refine (rRows (m := 16640) o n h).mem_set.mpr fun a => ?_
  match a with
  | 0 => exact ⟨(y 0).val - o, show (y 0).val - o < n by omega, show (y 0).val = o + 1 * ((y 0).val - o) by omega⟩
  | 1 => exact ⟨(y 1).val, (y 1).isLt, show (y 1).val = 0 + 1 * (y 1).val by omega⟩

theorem mem_rCols (o n : ℕ) (h : o + n ≤ 16640) (y : S144x16640.Idx) (h0 : (y 0).val < 128) (h1 : o ≤ (y 1).val) (h2 : (y 1).val < o + n) : y ∈ (rCols o n h).set := by
  refine (rCols o n h).mem_set.mpr fun a => ?_
  match a with
  | 0 => exact ⟨(y 0).val, h0, show (y 0).val = 0 + 1 * (y 0).val by omega⟩
  | 1 => exact ⟨(y 1).val - o, show (y 1).val - o < n by omega, show (y 1).val = o + 1 * ((y 1).val - o) by omega⟩

theorem mem_rOnes (y : S144x16640.Idx) (h0 : ¬ (y 0).val < 128) : y ∈ rOnes.set := by
  have h : (y 0).val < 144 := (y 0).isLt
  refine rOnes.mem_set.mpr fun a => ?_
  match a with
  | 0 => exact ⟨(y 0).val - 128, show (y 0).val - 128 < 16 by omega, show (y 0).val = 128 + 1 * ((y 0).val - 128) by omega⟩
  | 1 => exact ⟨(y 1).val, (y 1).isLt, show (y 1).val = 0 + 1 * (y 1).val by omega⟩

theorem kA_mem : ∀ n (hn : n < 12), kA s n hn ∈ kPieces s
  | 0, _ | 1, _ | 2, _ | 3, _ | 4, _ | 5, _ | 6, _ | 7, _ | 8, _ | 9, _ | 10, _ | 11, _ => by
    unfold kPieces
    repeat' first
      | exact List.mem_cons_self
      | refine List.mem_cons_of_mem _ ?_

theorem vA_mem : ∀ n (hn : n < 12), vA s n hn ∈ vPieces s
  | 0, _ | 1, _ | 2, _ | 3, _ | 4, _ | 5, _ | 6, _ | 7, _ | 8, _ | 9, _ | 10, _ | 11, _ => by
    unfold vPieces
    repeat' first
      | exact List.mem_cons_self
      | refine List.mem_cons_of_mem _ ?_

theorem fill_k : B.arg10.view.read (Elt F) (B.arg10.view.writes (Elt F) f10 (kPieces s)) =
    kG (B.arg4.view.read (Elt F) s.x4) (B.arg6.view.read (Elt F) s.x6) := by
  have cover : ∀ y, ∃ p ∈ kPieces s, y ∈ p.1.set := by
    intro y
    rcases block_of (y 0).val (y 0).isLt with ⟨n, hn, h1, h2⟩ | ⟨h1, h2⟩ | ⟨h1, h2⟩
    · exact ⟨_, kA_mem s n hn, mem_rRows _ _ (by omega) y h1 h2⟩
    · exact ⟨kB s, List.mem_cons_of_mem _ List.mem_cons_self, mem_rRows _ _ (by omega) y h1 h2⟩
    · exact ⟨kC s, List.mem_cons_self, mem_rRows _ _ (by omega) y h1 h2⟩
  rw [View.read_writes_eq_canon _ _ _ cover]
  funext y
  refine View.canon_apply_of_pieces _ _ ?_ y (cover y)
  unfold kPieces
  refine List.forall_mem_cons.mpr ⟨kC_piece s, List.forall_mem_cons.mpr ⟨kB_piece s, ?_⟩⟩
  iterate 12 refine List.forall_mem_cons.mpr ⟨kA_piece s _ _, ?_⟩
  exact fun p hp => absurd hp List.not_mem_nil

theorem fill_v : B.arg11.view.read (Elt F) (B.arg11.view.writes (Elt F) f11 (vPieces s)) =
    vG (B.arg5.view.read (Elt F) s.x5) (B.arg7.view.read (Elt F) s.x7) := by
  have cover : ∀ y, ∃ p ∈ vPieces s, y ∈ p.1.set := by
    intro y
    by_cases h0 : (y 0).val < 128
    · rcases block_of (y 1).val (y 1).isLt with ⟨n, hn, h1, h2⟩ | ⟨h1, h2⟩ | ⟨h1, h2⟩
      · exact ⟨_, vA_mem s n hn, mem_rCols _ _ (by omega) y h0 h1 h2⟩
      · exact ⟨vB s, List.mem_cons_of_mem _ (List.mem_cons_of_mem _ List.mem_cons_self), mem_rCols _ _ (by omega) y h0 h1 h2⟩
      · exact ⟨vC s, List.mem_cons_of_mem _ List.mem_cons_self, mem_rCols _ _ (by omega) y h0 h1 h2⟩
    · exact ⟨vO, List.mem_cons_self, mem_rOnes y h0⟩
  rw [View.read_writes_eq_canon _ _ _ cover]
  funext y
  refine View.canon_apply_of_pieces _ _ ?_ y (cover y)
  unfold vPieces
  refine List.forall_mem_cons.mpr ⟨vO_piece _ _, List.forall_mem_cons.mpr ⟨vC_piece s, List.forall_mem_cons.mpr ⟨vB_piece s, ?_⟩⟩⟩
  iterate 12 refine List.forall_mem_cons.mpr ⟨vA_piece s _ _, ?_⟩
  exact fun p hp => absurd hp List.not_mem_nil

end Cert.KernelIdeal.Attn
-- ==== Proof.AttnWhole.lean ====
/- The program of one head run whole: what it leaves in the result's block, of the blocks it reads alone. -/
module

public import proofs.«01_k».proof.Proof.AttnCopy

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F]

local notation "𝕄" => MT nD τ sig Unit (Elt F) ℕ (UR sig nD τ) ℕ

/-! ## The result's block as a function of the blocks read -/

/-- Chunk `n` of all keys. -/
def kcG (X4 : FVec F S16384x128 .bf16) (X6 : FVec F S256x128 .bf16) (n : ℕ) : FVec F S1280x128 .bf16 := fun x =>
  kG X4 X6 (ix2 (n0 := 16640) (n1 := 128) ⟨min (1280 * n + (x 0).val) 16639, by omega⟩ (x 1))

/-- Chunk `n` of all values and of the ones below them. -/
def vcG (X5 : FVec F S16384x128 .bf16) (X7 : FVec F S256x128 .bf16) (n : ℕ) : FVec F S144x1280 .bf16 := fun x =>
  vG X5 X7 (ix2 (n0 := 144) (n1 := 16640) (x 0) ⟨min (1280 * n + (x 1).val) 16639, by omega⟩)

/-- The stacked queries of tile `j`. -/
def qG (X1 : FVec F S16384x128 .bf16) (j : ℕ) : FVec F S1x512x128 .bf16 :=
  qq lanes fun x => X1 (ix2 (n0 := 16384) (n1 := 128) ⟨min (256 * j + (x 0).val) 16383, by omega⟩ (x 1))

/-- The result's block. -/
def outG (X1 : FVec F S16384x128 .bf16) (X2 : FVec F S8x128 .f32) (X3 : FVec F S1x128 .f32) (X4 X5 : FVec F S16384x128 .bf16)
    (X6 X7 : FVec F S256x128 .bf16) : FVec F S16384x128 .bf16 := fun y =>
  outVal (k0_pay175 X2) (k0_pay176 X3) (aSt (kcG X4 X6) (vcG X5 X7) (qG X1 ((y 0).val / 256)) 13)
    (ix2 (n0 := 256) (n1 := 128) ⟨(y 0).val % 256, Nat.mod_lt _ (by omega)⟩ (y 1))

/-- A load of a whole array reads it. -/
theorem readAt_whole {sg : RefSig} {κ : Kind} {sp : Space} {e : EltTy} {Val : EltTy → Type} {n0 n1 : ℕ} (v : View sg κ sp ⟨2, ![n0, n1]⟩ e)
    (f : v.ty.Contents Val) (h : ∀ a, (![0, 0] : Fin 2 → ℕ) a + (⟨2, ![n0, n1]⟩ : Shape).size a ≤ (⟨2, ![n0, n1]⟩ : Shape).size a) :
    v.readAt Val (Rect.unit (s := ⟨2, ![n0, n1]⟩) ![0, 0] (⟨2, ![n0, n1]⟩ : Shape).size h).toLoadRect f = v.read Val f := by
  funext x
  refine (readAt_apply _ _ _ _).trans (congrArg _ (funext fun a => Fin.ext ?_))
  match a with
  | 0 => exact show 0 + 1 * (x 0).val = (x 0).val by omega
  | 1 => exact show 0 + 1 * (x 1).val = (x 1).val by omega

/-! ## The steps in turn -/

/-- The buffers with the copies' sources. -/
abbrev Bufs.copies (B : Bufs) (arg4 arg5 : Memref sig .tc .vmem S16384x128 .bf16) (arg6 arg7 : Memref sig .tc .vmem S256x128 .bf16)
    (h10 : B.arg10.IsWhole) (h11 : B.arg11.IsWhole) : CBufs := ⟨arg4, arg5, arg6, arg7, B.arg10, B.arg11, h10, h11⟩

/-- A step that keeps to the tile's buffers keeps everything else. -/
theorem wp_keep {B : Bufs} {c : Dev nD} {𝒱 : Variants} {bd : Option 𝒱.V} {E : Set ℕ} {R : sProp 𝕄} {σ σ' : State F B} {p : KProg F Unit}
    (h : St B c σ ⊢ wp frame (wpE (defs₀ (F := F)) 𝒱 (c : Thread nD τ) bd) E p (fun _ => St B c σ')) :
    iprop(R ∗ St B c σ) ⊢ wp frame (wpE (defs₀ (F := F)) 𝒱 (c : Thread nD τ) bd) E p (fun _ => iprop(R ∗ St B c σ')) :=
  (sep_mono .rfl h).trans (wp_frame_l _ _ _)

/-- The sources of the copies. -/
abbrev Srcs (B : CBufs) (c : Dev nD) (s : CSrc F B) : sProp 𝕄 :=
  iprop((B.arg4.view.loc (c : Thread nD τ) ↦[B.arg4.view.set]{fullShare} s.x4) ∗ (B.arg5.view.loc (c : Thread nD τ) ↦[B.arg5.view.set]{fullShare} s.x5)
    ∗ (B.arg6.view.loc (c : Thread nD τ) ↦[B.arg6.view.set]{fullShare} s.x6) ∗ (B.arg7.view.loc (c : Thread nD τ) ↦[B.arg7.view.set]{fullShare} s.x7))

section
variable (B : Bufs) (c : Dev nD) (𝒱 : Variants) (bd : Option 𝒱.V) (E : Set ℕ)
  (arg4 arg5 : Memref sig .tc .vmem S16384x128 .bf16) (arg6 arg7 : Memref sig .tc .vmem S256x128 .bf16) (h10 : B.arg10.IsWhole) (h11 : B.arg11.IsWhole)
  (s : CSrc F (B.copies arg4 arg5 arg6 arg7 h10 h11)) (σ : State F B)

/-- The state after the copies. -/
def fillF : State F B := { σ with x10 := B.arg10.view.writes (Elt F) σ.x10 (kPieces s), x11 := B.arg11.view.writes (Elt F) σ.x11 (vPieces s) }

theorem wp_fillS : iprop(Srcs _ c s ∗ St B c σ) ⊢ wp frame (wpE (defs₀ (F := F)) 𝒱 (c : Thread nD τ) bd) E
    (fillP arg4 arg5 arg6 arg7 B.arg10 h10 B.arg11 h11) (fun _ => iprop(Srcs _ c s ∗ St B c (fillF B arg4 arg5 arg6 arg7 h10 h11 s σ))) := by
  have h := (sep_mono (P := iprop((B.arg1.view.loc (c : Thread nD τ) ↦[B.arg1.view.set]{fullShare} σ.x1) ∗ (B.arg8.view.loc (c : Thread nD τ) ↦[B.arg8.view.set]{fullShare} σ.f8)
    ∗ (B.arg9.view.loc (c : Thread nD τ) ↦[B.arg9.view.set]{fullShare} σ.f9) ∗ (B.arg12.view.loc (c : Thread nD τ) ↦[B.arg12.view.set]{fullShare} σ.f12)
    ∗ (B.arg13.view.loc (c : Thread nD τ) ↦[B.arg13.view.set]{fullShare} σ.f13) ∗ (B.arg14.view.loc (c : Thread nD τ) ↦[B.arg14.view.set]{fullShare} σ.f14)))
    .rfl (wp_fill c s 𝒱 bd E σ.x10 σ.x11)).trans (wp_frame_l _ _ _)
  refine BIBase.Entails.trans ?_ (h.trans (wp_mono _ _ _ fun _ => ?_))
  · iintro ⟨⟨H4, H5, H6, H7⟩, H1, H10, H11, H8, H9, H12, H13, H14⟩
    isplitl [H1 H8 H9 H12 H13 H14]
    · isplitl [H1]; · iexact H1
      isplitl [H8]; · iexact H8
      isplitl [H9]; · iexact H9
      isplitl [H12]; · iexact H12
      isplitl [H13]; · iexact H13
      iexact H14
    isplitl [H4]; · iexact H4
    isplitl [H5]; · iexact H5
    isplitl [H6]; · iexact H6
    isplitl [H7]; · iexact H7
    isplitl [H10]; · iexact H10
    iexact H11
  · unfold fillF
    iintro ⟨⟨H1, H8, H9, H12, H13, H14⟩, H4, H5, H6, H7, H10, H11⟩
    isplitl [H4 H5 H6 H7]
    · isplitl [H4]; · iexact H4
      isplitl [H5]; · iexact H5
      isplitl [H6]; · iexact H6
      iexact H7
    isplitl [H1]; · iexact H1
    isplitl [H10]; · iexact H10
    isplitl [H11]; · iexact H11
    isplitl [H8]; · iexact H8
    isplitl [H9]; · iexact H9
    isplitl [H12]; · iexact H12
    isplitl [H13]; · iexact H13
    iexact H14

/-- The state before the loop. -/
def startF : State F B :=
  scoresF (stackF (fillF B arg4 arg5 arg6 arg7 h10 h11 s σ) lanes ![0, 0] inb_S16384x128_S256x128_0_0 0 (by omega)) 0 0 0 (by omega) (by omega) (by omega)

attribute [local irreducible] View.writes View.readAt

/-- Before the loop the first tile is prepared, and the chunks of keys and values are those of the blocks read. -/
theorem start_inv (lam : FVec F S1x1 .f32) (gain : FVec F S1x128 .f32) :
    Inv (kcG (arg4.view.read (Elt F) s.x4) (arg6.view.read (Elt F) s.x6)) (vcG (arg5.view.read (Elt F) s.x5) (arg7.view.read (Elt F) s.x7)) σ.x1
      lanes lam gain 0 (startF B arg4 arg5 arg6 arg7 h10 h11 s σ) := by
  have hk : ∀ n (h : n < 13), B.arg10.view.readAt (Elt F) (rK n h).toLoadRect (fillF B arg4 arg5 arg6 arg7 h10 h11 s σ).x10 =
      kcG (arg4.view.read (Elt F) s.x4) (arg6.view.read (Elt F) s.x6) n := by
    intro n h
    funext x
    have h0 : (x 0).val < 1280 := (x 0).isLt
    refine (readAt_apply _ _ _ _).trans ((congrFun (fill_k s σ.x10) _).trans ?_)
    exact at_ix2 (n0 := 16640) (n1 := 128) _ _ _ _ (show 1280 * n + 1 * (x 0).val = min (1280 * n + (x 0).val) 16639 by omega)
      (show 0 + 1 * (x 1).val = (x 1).val by omega)
  have hv : ∀ n (h : n < 13), B.arg11.view.readAt (Elt F) (rV n h).toLoadRect (fillF B arg4 arg5 arg6 arg7 h10 h11 s σ).x11 =
      vcG (arg5.view.read (Elt F) s.x5) (arg7.view.read (Elt F) s.x7) n := by
    intro n h
    funext x
    have h1 : (x 1).val < 1280 := (x 1).isLt
    refine (readAt_apply _ _ _ _).trans ((congrFun (fill_v s σ.x11) _).trans ?_)
    exact at_ix2 (n0 := 144) (n1 := 16640) _ _ _ _ (show 0 + 1 * (x 0).val = (x 0).val by omega)
      (show 1280 * n + 1 * (x 1).val = min (1280 * n + (x 1).val) 16639 by omega)
  have hq := (stack_same (fillF B arg4 arg5 arg6 arg7 h10 h11 s σ) lanes ![0, 0] inb_S16384x128_S256x128_0_0 0 (by omega)).trans
    (qTile_of σ.x1 lanes 0 (by omega) ![0, 0] inb_S16384x128_S256x128_0_0 rfl)
  refine ⟨⟨⟨rfl, rfl, hk, hv⟩, hq, ?_⟩, fun j hj h => absurd h (by omega)⟩
  refine (scores_same _ 0 0 0 (by omega) (by omega) (by omega)).trans ?_
  exact congrArg₂ scoresVal (hk 0 (by omega)) hq

/-- After the loop the result's block is the one stated. -/
theorem final_read (X2 : FVec F S8x128 .f32) (X3 : FVec F S1x128 .f32) :
    B.arg8.view.read (Elt F) (loopF (startF B arg4 arg5 arg6 arg7 h10 h11 s σ) lanes (k0_pay175 X2) (k0_pay176 X3) k0_t1_loop.trips).f8 =
      outG (B.arg1.view.read (Elt F) σ.x1) X2 X3 (arg4.view.read (Elt F) s.x4) (arg5.view.read (Elt F) s.x5) (arg6.view.read (Elt F) s.x6)
        (arg7.view.read (Elt F) s.x7) := by
  have hi := start_inv B arg4 arg5 arg6 arg7 h10 h11 s σ (k0_pay175 X2) (k0_pay176 X3)
  funext y
  have hy : (y 0).val < 16384 := (y 0).isLt
  have h := congrFun (loop_done hi ((y 0).val / 256) (by omega)) (ix2 (n0 := 256) (n1 := 128) ⟨(y 0).val % 256, Nat.mod_lt _ (by omega)⟩ (y 1))
  refine Eq.trans ?_ (h.trans ?_)
  · refine Eq.trans (congrArg _ (funext fun a => Fin.ext ?_)) (readAt_apply _ _ _ _).symm
    match a with
    | 0 => exact show (y 0).val = 256 * ((y 0).val / 256) + 1 * ((y 0).val % 256) by omega
    | 1 => exact show (y 1).val = 0 + 1 * (y 1).val by omega
  · have e : qTile σ.x1 lanes ((y 0).val / 256) (by omega) = qG (B.arg1.view.read (Elt F) σ.x1) ((y 0).val / 256) := by
      unfold qTile qG
      refine congrArg (qq lanes) (funext fun x => ?_)
      have h0 : (x 0).val < 256 := (x 0).isLt
      refine (readAt_apply _ _ _ _).trans (at_ix2 (n0 := 16384) (n1 := 128) _ _ _ _ ?_ (show 0 + 1 * (x 1).val = (x 1).val by omega))
      exact show 256 * ((y 0).val / 256) + 1 * (x 0).val = min (256 * ((y 0).val / 256) + (x 0).val) 16383 by omega
    rw [e]
    rfl

end

end Cert.KernelIdeal.Attn
-- ==== Proof.AttnBody.lean ====
/- The program of one head run whole, over the blocks it is given. -/
module

public import proofs.«01_k».proof.Proof.AttnWhole

@[expose] public section

set_option maxRecDepth 65536

noncomputable section

namespace Cert.KernelIdeal.Attn

open Idealize.ShloMosaic Idealize.ShloMosaic.TcCoe Idealize.ShloMosaic.Tactic
open Idealize.SL Idealize.SL.RA Idealize.SL.BI Idealize.SL.Sem
open scoped Idealize.SL.BI
open Idealize.SL.BI.BIBase Idealize.SL.BI.Laws Idealize.SL.ProofMode
open Cert.KernelIdeal Cert.KernelIdeal.Gen

variable {F : FTy → Type} [FloatOps F]

local notation "𝕄" => MT nD τ sig Unit (Elt F) ℕ (UR sig nD τ) ℕ

/-- From the copies to the end. -/
theorem wp_rest (B : Bufs) (c : Dev nD) (𝒱 : Variants) (bd : Option 𝒱.V) (E : Set ℕ) (i : grid0.Coords) (harg1 : B.arg1.IsWhole)
    (arg2 : Memref sig .tc .vmem S8x128 .f32) (harg2 : arg2.IsWhole) (arg3 : Memref sig .tc .vmem S1x128 .f32) (harg3 : arg3.IsWhole)
    (arg4 : Memref sig .tc .vmem S16384x128 .bf16) (harg4 : arg4.IsWhole) (arg5 : Memref sig .tc .vmem S16384x128 .bf16) (harg5 : arg5.IsWhole)
    (arg6 : Memref sig .tc .vmem S256x128 .bf16) (harg6 : arg6.IsWhole) (arg7 : Memref sig .tc .vmem S256x128 .bf16) (harg7 : arg7.IsWhole)
    (harg10 : B.arg10.IsWhole) (harg11 : B.arg11.IsWhole) (harg12 : B.arg12.IsWhole) (harg13 : B.arg13.IsWhole) (harg14 : B.arg14.IsWhole)
    (s : CSrc F (B.copies arg4 arg5 arg6 arg7 harg10 harg11)) (σ : State F B) (lam : FVec F S1x1 .f32) (gain : FVec F S1x128 .f32) :
    iprop(Srcs _ c s ∗ St B c σ) ⊢ wp frame (wpE (defs₀ (F := F)) 𝒱 (c : Thread nD τ) bd) E
      (do
        fillP arg4 arg5 arg6 arg7 B.arg10 harg10 B.arg11 harg11
        stackP B.arg1 B.arg9 B.harg9 lanes ![0, 0] inb_S16384x128_S256x128_0_0 0 (by omega) (packedQ 0 (by omega))
        scoresP B.arg9 B.arg10 B.arg12 0 0 0 (by omega) (by omega) (by omega)
        Scf.Loop.for k0_t1_loop k0_t1_ok ⟨⟩ (k0_t1_body i B.arg1 harg1 arg2 harg2 arg3 harg3 arg4 harg4 arg5 harg5 arg6 harg6 arg7 harg7 B.arg8 B.harg8 B.arg9 B.harg9 B.arg10 harg10 B.arg11 harg11 B.arg12 harg12 B.arg13 harg13 B.arg14 harg14 lanes lam gain)
        pure ⟨⟩ : KProg F PUnit)
      (fun _ => iprop(Srcs _ c s ∗ St B c (loopF (startF B arg4 arg5 arg6 arg7 harg10 harg11 s σ) lanes lam gain k0_t1_loop.trips))) := by
  refine wp_seq c 𝒱 bd E (wp_fillS B c 𝒱 bd E arg4 arg5 arg6 arg7 harg10 harg11 s σ) ?_
  refine wp_seq c 𝒱 bd E (wp_keep (wp_stack c 𝒱 bd E _ _ _ _ _ _ _)) ?_
  refine wp_seq c 𝒱 bd E (wp_keep (wp_scores c 𝒱 bd E _ _ _ _ _ _ _)) ?_
  refine wp_seq c 𝒱 bd E (wp_keep (wp_loop c 𝒱 bd E _ i harg1 arg2 harg2 arg3 harg3 arg4 harg4 arg5 harg5 arg6 harg6 arg7 harg7 harg10 harg11 harg12 harg13 harg14 lanes lam gain)) ?_
  rw [wp_pure]
  exact fupd_intro

/-- The two small loads first. -/
theorem wp_loads (c : Dev nD) (𝒱 : Variants) (bd : Option 𝒱.V) (E : Set ℕ) (arg2 : Memref sig .tc .vmem S8x128 .f32) (arg3 : Memref sig .tc .vmem S1x128 .f32)
    (f2 : arg2.view.ty.Contents (Elt F)) (f3 : arg3.view.ty.Contents (Elt F)) (k : Vec F S8x128 .f32 → Vec F S1x128 .f32 → KProg F PUnit) (K : PUnit → sProp 𝕄) :
    iprop((arg2.view.loc (c : Thread nD τ) ↦[arg2.view.set]{fullShare} f2) ∗ (arg3.view.loc (c : Thread nD τ) ↦[arg3.view.set]{fullShare} f3)
        ∗ (iprop((arg2.view.loc (c : Thread nD τ) ↦[arg2.view.set]{fullShare} f2) ∗ (arg3.view.loc (c : Thread nD τ) ↦[arg3.view.set]{fullShare} f3))
          -∗ wp frame (wpE (defs₀ (F := F)) 𝒱 (c : Thread nD τ) bd) E (k (arg2.view.read (Elt F) f2) (arg3.view.read (Elt F) f3)) K))
      ⊢ wp frame (wpE (defs₀ (F := F)) 𝒱 (c : Thread nD τ) bd) E (do
        let x2 : Vec F S8x128 .f32 ← Prog.lift (.load arg2 (Rect.unit (s := S8x128) ![0, 0] S8x128.size inb_S8x128_S8x128_0_0).toLoadRect (View.loadsAt_vmem h_S8x128))
        let x3 : Vec F S1x128 .f32 ← Prog.lift (.load arg3 (Rect.unit (s := S1x128) ![0, 0] S1x128.size inb_S1x128_S1x128_0_0).toLoadRect (View.loadsAt_vmem h_S1x128))
        k x2 x3 : KProg F PUnit) K := by
  rw [← readAt_whole (n0 := 8) (n1 := 128) arg2.view f2 inb_S8x128_S8x128_0_0, ← readAt_whole (n0 := 1) (n1 := 128) arg3.view f3 inb_S1x128_S1x128_0_0]
  iintro ⟨H2, H3, Hk⟩
  sl_exec
  iapply Hk
  isplitl [H2]; · iexact H2
  iexact H3

/-- The program of one head on the buffers, from their contents to the result's block. -/
theorem wp_body (B : Bufs) (c : Dev nD) (𝒱 : Variants) (bd : Option 𝒱.V) (E : Set ℕ) (i : grid0.Coords) (harg1 : B.arg1.IsWhole)
    (arg2 : Memref sig .tc .vmem S8x128 .f32) (harg2 : arg2.IsWhole) (arg3 : Memref sig .tc .vmem S1x128 .f32) (harg3 : arg3.IsWhole)
    (arg4 : Memref sig .tc .vmem S16384x128 .bf16) (harg4 : arg4.IsWhole) (arg5 : Memref sig .tc .vmem S16384x128 .bf16) (harg5 : arg5.IsWhole)
    (arg6 : Memref sig .tc .vmem S256x128 .bf16) (harg6 : arg6.IsWhole) (arg7 : Memref sig .tc .vmem S256x128 .bf16) (harg7 : arg7.IsWhole)
    (harg10 : B.arg10.IsWhole) (harg11 : B.arg11.IsWhole) (harg12 : B.arg12.IsWhole) (harg13 : B.arg13.IsWhole) (harg14 : B.arg14.IsWhole)
    (f2 : arg2.view.ty.Contents (Elt F)) (f3 : arg3.view.ty.Contents (Elt F)) (s : CSrc F (B.copies arg4 arg5 arg6 arg7 harg10 harg11)) (σ : State F B) :
    iprop((arg2.view.loc (c : Thread nD τ) ↦[arg2.view.set]{fullShare} f2) ∗ (arg3.view.loc (c : Thread nD τ) ↦[arg3.view.set]{fullShare} f3)
        ∗ Srcs _ c s ∗ St B c σ)
      ⊢ wp frame (wpE (defs₀ (F := F)) 𝒱 (c : Thread nD τ) bd) E
        (cc0_diff_attn i B.arg1 harg1 arg2 harg2 arg3 harg3 arg4 harg4 arg5 harg5 arg6 harg6 arg7 harg7 B.arg8 B.harg8 B.arg9 B.harg9 B.arg10 harg10 B.arg11 harg11 B.arg12 harg12 B.arg13 harg13 B.arg14 harg14)
        (fun _ => iprop(iprop((arg2.view.loc (c : Thread nD τ) ↦[arg2.view.set]{fullShare} f2) ∗ (arg3.view.loc (c : Thread nD τ) ↦[arg3.view.set]{fullShare} f3))
          ∗ Srcs _ c s ∗ St B c (loopF (startF B arg4 arg5 arg6 arg7 harg10 harg11 s σ) lanes (k0_pay175 (arg2.view.read (Elt F) f2)) (k0_pay176 (arg3.view.read (Elt F) f3)) k0_t1_loop.trips))) := by
  have hr := wp_rest B c 𝒱 bd E i harg1 arg2 harg2 arg3 harg3 arg4 harg4 arg5 harg5 arg6 harg6 arg7 harg7 harg10 harg11 harg12 harg13 harg14 s σ
    (k0_pay175 (arg2.view.read (Elt F) f2)) (k0_pay176 (arg3.view.read (Elt F) f3))
  rw [whole_eq]
  refine BIBase.Entails.trans ?_ (wp_loads c 𝒱 bd E arg2 arg3 f2 f3 _ _)
  iintro ⟨H2, H3, HR⟩
  isplitl [H2]; · iexact H2
  isplitl [H3]; · iexact H3
  iintro HL
  ihave HW := hr $$ HR
  iapply (wp_frame_l _ _ _)
  isplitl [HL]; · iexact HL
  iexact HW

/-- The whole body: the blocks read stay as they were, the result's block is the one stated, the work arrays are left at something. -/
theorem sound_kernel (c : Dev nD) (E : Set ℕ) (i : grid0.Coords) (arg1 : Memref sig .tc .vmem S16384x128 .bf16) (harg1 : arg1.IsWhole) (arg2 : Memref sig .tc .vmem S8x128 .f32) (harg2 : arg2.IsWhole) (arg3 : Memref sig .tc .vmem S1x128 .f32) (harg3 : arg3.IsWhole) (arg4 : Memref sig .tc .vmem S16384x128 .bf16) (harg4 : arg4.IsWhole) (arg5 : Memref sig .tc .vmem S16384x128 .bf16) (harg5 : arg5.IsWhole) (arg6 : Memref sig .tc .vmem S256x128 .bf16) (harg6 : arg6.IsWhole) (arg7 : Memref sig .tc .vmem S256x128 .bf16) (harg7 : arg7.IsWhole) (arg8 : Memref sig .tc .vmem S16384x128 .bf16) (harg8 : arg8.IsWhole) (arg9 : Memref sig .tc .vmem S2x512x128 .bf16) (harg9 : arg9.IsWhole) (arg10 : Memref sig .tc .vmem S16640x128 .bf16) (harg10 : arg10.IsWhole) (arg11 : Memref sig .tc .vmem S144x16640 .bf16) (harg11 : arg11.IsWhole) (arg12 : Memref sig .tc .vmem S2x1280x512 .f32) (harg12 : arg12.IsWhole) (arg13 : Memref sig .tc .vmem S1x512 .f32) (harg13 : arg13.IsWhole) (arg14 : Memref sig .tc .vmem S144x512 .f32) (harg14 : arg14.IsWhole)
    (X1 : Vec F S16384x128 .bf16) (X2 : Vec F S8x128 .f32) (X3 : Vec F S1x128 .f32) (X4 X5 : Vec F S16384x128 .bf16) (X6 X7 : Vec F S256x128 .bf16) (K : PUnit → sProp 𝕄) :
    iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)
        ∗ (iprop(owns (c : Thread nD τ) arg1 fullShare X1 ∗ owns (c : Thread nD τ) arg2 fullShare X2 ∗ owns (c : Thread nD τ) arg3 fullShare X3 ∗ owns (c : Thread nD τ) arg4 fullShare X4 ∗ owns (c : Thread nD τ) arg5 fullShare X5 ∗ owns (c : Thread nD τ) arg6 fullShare X6 ∗ owns (c : Thread nD τ) arg7 fullShare X7 ∗ owns (c : Thread nD τ) arg8 fullShare (outG X1 X2 X3 X4 X5 X6 X7)
            ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d)) -∗ K ⟨⟩))
      ⊢ wp frame (wpE (defs₀ (F := F)) Variants.none c none) E (cc0_diff_attn i arg1 harg1 arg2 harg2 arg3 harg3 arg4 harg4 arg5 harg5 arg6 harg6 arg7 harg7 arg8 harg8 arg9 harg9 arg10 harg10 arg11 harg11 arg12 harg12 arg13 harg13 arg14 harg14) K := by
  unfold owns
  iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d14, %f14, -, H14⟩, Hk⟩
  subst hf1 hf2 hf3 hf4 hf5 hf6 hf7
  have hb := wp_body (F := F) ⟨arg1, arg8, arg9, arg10, arg11, arg12, arg13, arg14, harg8, harg9⟩ c Variants.none none E i harg1 arg2 harg2 arg3 harg3 arg4 harg4 arg5 harg5 arg6 harg6 arg7 harg7 harg10 harg11 harg12 harg13 harg14 f2 f3
    ⟨f4, f5, f6, f7⟩ ⟨f1, f10, f11, f8, f9, f12, f13, f14⟩
  have hv := final_read (F := F) ⟨arg1, arg8, arg9, arg10, arg11, arg12, arg13, arg14, harg8, harg9⟩ arg4 arg5 arg6 arg7 harg10 harg11 ⟨f4, f5, f6, f7⟩ ⟨f1, f10, f11, f8, f9, f12, f13, f14⟩ (arg2.view.read (Elt F) f2) (arg3.view.read (Elt F) f3)
  have hx : (loopF (startF ⟨arg1, arg8, arg9, arg10, arg11, arg12, arg13, arg14, harg8, harg9⟩ arg4 arg5 arg6 arg7 harg10 harg11 ⟨f4, f5, f6, f7⟩ ⟨f1, f10, f11, f8, f9, f12, f13, f14⟩) lanes (k0_pay175 (arg2.view.read (Elt F) f2)) (k0_pay176 (arg3.view.read (Elt F) f3)) k0_t1_loop.trips).x1 = f1 :=
    (Inv_loop (start_inv (F := F) ⟨arg1, arg8, arg9, arg10, arg11, arg12, arg13, arg14, harg8, harg9⟩ arg4 arg5 arg6 arg7 harg10 harg11 ⟨f4, f5, f6, f7⟩ ⟨f1, f10, f11, f8, f9, f12, f13, f14⟩ _ _) _ le_rfl).pre.has.h1
  generalize loopF (startF ⟨arg1, arg8, arg9, arg10, arg11, arg12, arg13, arg14, harg8, harg9⟩ arg4 arg5 arg6 arg7 harg10 harg11 ⟨f4, f5, f6, f7⟩ ⟨f1, f10, f11, f8, f9, f12, f13, f14⟩) lanes (k0_pay175 (arg2.view.read (Elt F) f2)) (k0_pay176 (arg3.view.read (Elt F) f3)) k0_t1_loop.trips = σ at hb hv hx
  obtain ⟨y1, y10, y11, y8, y9, y12, y13, y14⟩ := σ
  dsimp only at hx
  subst hx
  iapply (wp_wand_r _ _ _)
  isplitr [Hk]
  · iapply hb
    isplitl [H2]; · iexact H2
    isplitl [H3]; · iexact H3
    isplitl [H4 H5 H6 H7]
    · isplitl [H4]; · iexact H4
      isplitl [H5]; · iexact H5
      isplitl [H6]; · iexact H6
      iexact H7
    isplitl [H1]; · iexact H1
    isplitl [H10]; · iexact H10
    isplitl [H11]; · iexact H11
    isplitl [H8]; · iexact H8
    isplitl [H9]; · iexact H9
    isplitl [H12]; · iexact H12
    isplitl [H13]; · iexact H13
    iexact H14
  iintro %_ ⟨⟨H2, H3⟩, ⟨H4, H5, H6, H7⟩, H1, H10, H11, H8, H9, H12, H13, H14⟩
  iapply Hk
  isplitl [H1]
  · iexists _; isplitr; · ipureintro; rfl
    iexact H1
  isplitl [H2]
  · iexists _; isplitr; · ipureintro; rfl
    iexact H2
  isplitl [H3]
  · iexists _; isplitr; · ipureintro; rfl
    iexact H3
  isplitl [H4]
  · iexists _; isplitr; · ipureintro; rfl
    iexact H4
  isplitl [H5]
  · iexists _; isplitr; · ipureintro; rfl
    iexact H5
  isplitl [H6]
  · iexists _; isplitr; · ipureintro; rfl
    iexact H6
  isplitl [H7]
  · iexists _; isplitr; · ipureintro; rfl
    iexact H7
  isplitl [H8]
  · iexists _; isplitr; swap; · iexact H8
    ipureintro; exact hv
  isplitl [H9]
  · iexists _, _; isplitr; swap; · iexact H9
    ipureintro; rfl
  isplitl [H10]
  · iexists _, _; isplitr; swap; · iexact H10
    ipureintro; rfl
  isplitl [H11]
  · iexists _, _; isplitr; swap; · iexact H11
    ipureintro; rfl
  isplitl [H12]
  · iexists _, _; isplitr; swap; · iexact H12
    ipureintro; rfl
  isplitl [H13]
  · iexists _, _; isplitr; swap; · iexact H13
    ipureintro; rfl
  iexists _, _; isplitr; swap; · iexact H14
  ipureintro; rfl

end Cert.KernelIdeal.Attn
-- ==== Proof.AttnFrame.lean ====
/- The attention call's pipeline: the program of each head at its place, the run, the frame. -/
module

public import proofs.«01_k».proof.Proof.AttnBody
public import proofs.«01_k».proof.Proof.Gen.KernelIdeal.Frame
public import Idealize.ShloMosaic.Lib.Claim

@[expose] public section

set_option maxRecDepth 16384

noncomputable section

namespace Cert.KernelIdeal.Attn

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The proof data: each input's buffer keeps its block, the result's holds the formula of the blocks; the work arrays at something between heads. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => outG (iblk m c 0 t) (iblk m c 1 t) (iblk m c 2 t) (iblk m c 3 t) (iblk m c 4 t) (iblk m c 5 t) (iblk m c 6 t)
  Φ _ := Pipeline.ΦA spec0 c
  q _ := fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = iblk m c 5 t := by dsimp only [dats]
theorem after_6 (c : Dev nD) (t : Fin cfg0.N) : (dats m 0 c).after 6 t = iblk m c 6 t := by dsimp only [dats]
theorem after_7 (c : Dev nD) (t : Fin cfg0.N) : (dats m 0 c).after 7 t = outG (iblk m c 0 t) (iblk m c 1 t) (iblk m c 2 t) (iblk m c 3 t) (iblk m c 4 t) (iblk m c 5 t) (iblk m c 6 t) := by dsimp only [dats]

theorem before_0 (c : Dev nD) (t : Fin cfg0.N) (d) : (dats m 0 c).before 0 t d = iblk m c 0 t :=
  before0_0_of m (dats m 0 c) (A_eq m c 0) (after_0 m c) t d
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d
theorem before_5 (c : Dev nD) (t : Fin cfg0.N) (d) : (dats m 0 c).before 5 t d = iblk m c 5 t :=
  before0_5_of m (dats m 0 c) (A_eq m c 5) (after_5 m c) t d
theorem before_6 (c : Dev nD) (t : Fin cfg0.N) (d) : (dats m 0 c).before 6 t d = iblk m c 6 t :=
  before0_6_of m (dats m 0 c) (A_eq m c 6) (after_6 m c) t d

/-- The work arrays, each at some contents. -/
theorem scratch_eq (c : Dev nD) : (Pipeline.scopedRest (Ix := Unit) (Name := ℕ) (U := UR sig nD τ) (Lvl := ℕ) (Val := Elt F) spec0 c : sProp 𝕄) =
    iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d) ∗ (∃ d, owns (c : Thread nD τ) (Memref.whole cc0_scratch4) fullShare d) ∗ (∃ d, owns (c : Thread nD τ) (Memref.whole cc0_scratch5) fullShare d)) := by
  rw [scopedRest0_eq]; simp only [owns_whole]; try rfl

/-- What a head's program is called with, -/
def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d))
    ∗ (∃ d, owns (c : Thread nD τ) (st0_6 t) fullShare ((dats m 0 c).before 6 t d))
    ∗ (∃ d, owns (c : Thread nD τ) (st0_7 t) fullShare ((dats m 0 c).before 7 t d)))

/-- and what it returns. -/
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ owns (c : Thread nD τ) (st0_4 t) fullShare ((dats m 0 c).after 4 t)
    ∗ owns (c : Thread nD τ) (st0_5 t) fullShare ((dats m 0 c).after 5 t)
    ∗ owns (c : Thread nD τ) (st0_6 t) fullShare ((dats m 0 c).after 6 t)
    ∗ owns (c : Thread nD τ) (st0_7 t) fullShare ((dats m 0 c).after 7 t))

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4, before_5, before_6]
  rw [show (dats m 0 c).Φ t.succ = (dats m 0 c).Φ t.castSucc from rfl,
    show (dats m 0 c).owesAt () t.succ = (dats m 0 c).owesAt () t.castSucc from rfl,
    show (dats m 0 c).Φ t.castSucc = Pipeline.ΦA spec0 c from rfl,
    after_0, after_1, after_2, after_3, after_4, after_5, after_6, after_7]
  unfold Pipeline.ΦA
  rw [scratch_eq]
  iintro ⟨⟨⟨HS0, HS1, HS2, HS3, HS4, HS5⟩, HR⟩, Ho, ⟨%d0, H0⟩, ⟨%d1, H1⟩, ⟨%d2, H2⟩, ⟨%d3, H3⟩, ⟨%d4, H4⟩, ⟨%d5, H5⟩, ⟨%d6, H6⟩, ⟨%d7, H7⟩⟩
  iapply (sound_kernel c Set.univ (grid0.coords t) _ _ _ _ _ _ _ _ _ _ _ _ _ _ _ _ _ _ _ _ _ _ _ _ _ _ _ _ (iblk m c 0 t) (iblk m c 1 t) (iblk m c 2 t) (iblk m c 3 t) (iblk m c 4 t) (iblk m c 5 t) (iblk m c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [HS0]; · iexact HS0
  isplitl [HS1]; · iexact HS1
  isplitl [HS2]; · iexact HS2
  isplitl [HS3]; · iexact HS3
  isplitl [HS4]; · iexact HS4
  isplitl [HS5]; · iexact HS5
  iintro ⟨H0, H1, H2, H3, H4, H5, H6, H7, HS0, HS1, HS2, HS3, HS4, HS5⟩
  isplitl [HS0 HS1 HS2 HS3 HS4 HS5 HR]
  · isplitr [HR]
    · isplitl [HS0]; · iexact HS0
      isplitl [HS1]; · iexact HS1
      isplitl [HS2]; · iexact HS2
      isplitl [HS3]; · iexact HS3
      isplitl [HS4]; · iexact HS4
      iexact HS5
    iexact HR
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  iexact H7

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

set_option backward.isDefEq.respectTransparency.types false in
set_option maxHeartbeats 800000 in
/-- The launch. -/
theorem run_main_quiescent : θ_run defs (onTc (τ := τ) (main (F := F))) (s₀ m ρ) (fun r => (Pipeline.FramePost cfgs (dats m) 0 (V m)) r ∧ r.2.sem = fun _ => 0) :=
  Pipeline.θ_run_frame (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hΦ := fun _ _ => rfl)

/-- Every run ends with each array of the pipeline at what the proof data say. -/
theorem run_main : θ_run defs (onTc (τ := τ) (main (F := F))) (s₀ m ρ) (Pipeline.FramePost cfgs (dats m) 0 (V m)) :=
  (θ_run defs _ _).mono (fun _ h => h.1) (run_main_quiescent m ρ)

/-- The arguments end as they began, every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Attn

end
-- ==== Proof.AttnSame.lean ====
/- The attention kernel as it stands and the one read over the extended reals are the same program, so the run of the
   latter, at any float values, is the run of the former. -/
module
public import proofs.«01_k».proof.Defs
public import proofs.«01_k».proof.Proof.Gen.Kernel.Frame
public import proofs.«01_k».proof.Proof.AttnFrame
@[expose] public section
noncomputable section
namespace Cert.Attn
open Idealize.ShloMosaic Idealize.ShloMosaic.TcCoe Idealize.SL.Sem

set_option maxHeartbeats 2000000 in
/-- The two bodies. -/
theorem body_same : @Cert.Kernel.cc0_diff_attn Bits _ _ = @Cert.KernelIdeal.cc0_diff_attn Bits _ _ := rfl

set_option maxHeartbeats 4000000 in
/-- The two host programs. -/
theorem main_same : Cert.Kernel.main (F := Bits) = Cert.KernelIdeal.main (F := Bits) := rfl

/-- The two tables of bodies. -/
theorem defs₀_same : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) =>
    dsimp only
    rw [body_same]
    try rfl

theorem defs_same : Cert.Kernel.defs (F := Bits) = Cert.KernelIdeal.defs (F := Bits) := by
  unfold Cert.Kernel.defs Cert.KernelIdeal.defs
  rw [defs₀_same]
  try rfl

set_option maxHeartbeats 2000000 in
/-- The kernel leaves its arguments as they were, every counter at zero. -/
theorem frame_kernel : Cert.quiescent_Kernel := fun m ρ _ => by
  have h := Cert.KernelIdeal.Attn.frame (F := Bits) m ρ
  rw [← defs_same, ← main_same] at h
  exact h
end Cert.Attn
end
-- ==== Proof.AttnHost.lean ====
/- What the attention call's operands hold, from the arguments. -/
module

public import proofs.«01_k».proof.Proof.AttnFrame
public import Idealize.ShloMosaic.Lib.Pointwise
public import Idealize.ShloMosaic.Lib.Tactic
public import Idealize.ShloMosaic.Lib.StableHlo.Run
public import Idealize.ShloMosaic.Lib.Routing.OpsOne

@[expose] public section

noncomputable section

namespace Cert.KernelIdeal.Attn

open Cert.KernelIdeal Cert.KernelIdeal.Gen Idealize.ShloMosaic Idealize.ShloMosaic.TcCoe Idealize.ShloMosaic.Routing

variable (m : (ℓ : Loc nD τ sig) → Buf (Elt Ideal) ℓ)

/-! ## The argument arrays -/

abbrev a0 (c : Dev nD) : Vec Ideal S1x16384x2x8x64 .f32 := m ((c.tc : Thread nD τ).loc main_arg0)
abbrev a1 (c : Dev nD) : Vec Ideal S1x16384x2x8x64 .f32 := m ((c.tc : Thread nD τ).loc main_arg1)
abbrev a2 (c : Dev nD) : Vec Ideal S1x16384x8x128 .f32 := m ((c.tc : Thread nD τ).loc main_arg2)
abbrev a3 (c : Dev nD) : Vec Ideal S1x256x2x8x64 .f32 := m ((c.tc : Thread nD τ).loc main_arg3)
abbrev a4 (c : Dev nD) : Vec Ideal S1x256x8x128 .f32 := m ((c.tc : Thread nD τ).loc main_arg4)
abbrev a5 (c : Dev nD) : Vec Ideal S64 .f32 := m ((c.tc : Thread nD τ).loc main_arg5)
abbrev a6 (c : Dev nD) : Vec Ideal S64 .f32 := m ((c.tc : Thread nD τ).loc main_arg6)
abbrev a7 (c : Dev nD) : Vec Ideal S64 .f32 := m ((c.tc : Thread nD τ).loc main_arg7)
abbrev a8 (c : Dev nD) : Vec Ideal S64 .f32 := m ((c.tc : Thread nD τ).loc main_arg8)
abbrev a9 (c : Dev nD) : Vec Ideal S128 .f32 := m ((c.tc : Thread nD τ).loc main_arg9)

theorem V_q (c : Dev nD) (r : Fin 16384) (j : Fin 1024) : (V m c main_v17 : Vec Ideal S16384x1024 .bf16) (ix2 r j)
    = a0 m c (ix5 0 r ⟨j / 64 % 2, by omega⟩ ⟨j / 128, by omega⟩ ⟨j % 64, by omega⟩)
      * Ideal.div (Ideal.ofBits .f32 0x3E000000#32) (Ideal.log (Ideal.ofBits .f32 0x40000000#32)) := by
  have h : (V m c main_v17 : Vec Ideal S16384x1024 .bf16) =
      (truncf .bf16 (mulf (shapeCast S16384x1024 (transpose S16384x8x2x64 [0, 2, 1, 3] (shapeCast S16384x2x8x64 (a0 m c) shapeCasts_S1x16384x2x8x64_S16384x2x8x64 : FVec Ideal S16384x2x8x64 .f32) transposes_S16384x2x8x64_S16384x8x2x64_0_2_1_3 : FVec Ideal S16384x8x2x64 .f32) shapeCasts_S16384x8x2x64_S16384x1024 : FVec Ideal S16384x1024 .f32) (broadcastInDim S16384x1024 ![] bcast_S_S16384x1024 (Host.divf (constant S_ .f32 0x3E000000#32) (Host.log (constant S_ .f32 0x40000000#32) : FVec Ideal S_ .f32) : FVec Ideal S_ .f32)) : FVec Ideal S16384x1024 .f32) bitsLt_bf16_f32 : FVec Ideal S16384x1024 .bf16) := by
    unfold V hostOps0; after_results_simp; try rfl
  rw [h]; pointwise

theorem V_kl (c : Dev nD) (r : Fin 16384) (j : Fin 1024) : (V m c main_v21 : Vec Ideal S16384x1024 .bf16) (ix2 r j)
    = a1 m c (ix5 0 r ⟨j / 64 % 2, by omega⟩ ⟨j / 128, by omega⟩ ⟨j % 64, by omega⟩) := by
  have h : (V m c main_v21 : Vec Ideal S16384x1024 .bf16) =
      (truncf .bf16 (shapeCast S16384x1024 (transpose S16384x8x2x64 [0, 2, 1, 3] (shapeCast S16384x2x8x64 (a1 m c) shapeCasts_S1x16384x2x8x64_S16384x2x8x64 : FVec Ideal S16384x2x8x64 .f32) transposes_S16384x2x8x64_S16384x8x2x64_0_2_1_3 : FVec Ideal S16384x8x2x64 .f32) shapeCasts_S16384x8x2x64_S16384x1024 : FVec Ideal S16384x1024 .f32) bitsLt_bf16_f32 : FVec Ideal S16384x1024 .bf16) := by
    unfold V hostOps0; after_results_simp; try rfl
  rw [h]; pointwise

theorem V_kc (c : Dev nD) (r : Fin 256) (j : Fin 1024) : (V m c main_v25 : Vec Ideal S256x1024 .bf16) (ix2 r j)
    = a3 m c (ix5 0 r ⟨j / 64 % 2, by omega⟩ ⟨j / 128, by omega⟩ ⟨j % 64, by omega⟩) := by
  have h : (V m c main_v25 : Vec Ideal S256x1024 .bf16) =
      (truncf .bf16 (shapeCast S256x1024 (transpose S256x8x2x64 [0, 2, 1, 3] (shapeCast S256x2x8x64 (a3 m c) shapeCasts_S1x256x2x8x64_S256x2x8x64 : FVec Ideal S256x2x8x64 .f32) transposes_S256x2x8x64_S256x8x2x64_0_2_1_3 : FVec Ideal S256x8x2x64 .f32) shapeCasts_S256x8x2x64_S256x1024 : FVec Ideal S256x1024 .f32) bitsLt_bf16_f32 : FVec Ideal S256x1024 .bf16) := by
    unfold V hostOps0; after_results_simp; try rfl
  rw [h]; pointwise

theorem V_vl (c : Dev nD) (r : Fin 16384) (j : Fin 1024) : (V m c main_v27 : Vec Ideal S16384x1024 .bf16) (ix2 r j)
    = a2 m c (ix4 0 r ⟨j / 128, by omega⟩ ⟨j % 128, by omega⟩) := by
  have h : (V m c main_v27 : Vec Ideal S16384x1024 .bf16) =
      (truncf .bf16 (shapeCast S16384x1024 (a2 m c) shapeCasts_S1x16384x8x128_S16384x1024 : FVec Ideal S16384x1024 .f32) bitsLt_bf16_f32 : FVec Ideal S16384x1024 .bf16) := by
    unfold V hostOps0; after_results_simp; try rfl
  rw [h]; pointwise

theorem V_vc (c : Dev nD) (r : Fin 256) (j : Fin 1024) : (V m c main_v29 : Vec Ideal S256x1024 .bf16) (ix2 r j)
    = a4 m c (ix4 0 r ⟨j / 128, by omega⟩ ⟨j % 128, by omega⟩) := by
  have h : (V m c main_v29 : Vec Ideal S256x1024 .bf16) =
      (truncf .bf16 (shapeCast S256x1024 (a4 m c) shapeCasts_S1x256x8x128_S256x1024 : FVec Ideal S256x1024 .f32) bitsLt_bf16_f32 : FVec Ideal S256x1024 .bf16) := by
    unfold V hostOps0; after_results_simp; try rfl
  rw [h]; pointwise

theorem V_gain (c : Dev nD) (j : Fin 128) : (V m c main_v30 : Vec Ideal S1x128 .f32) (ix2 0 j) = a9 m c (ix1 j) := by
  have h : (V m c main_v30 : Vec Ideal S1x128 .f32) = shapeCast S1x128 (a9 m c) shapeCasts_S128_S1x128 := by
    unfold V hostOps0; after_results_simp; try rfl
  rw [h]; pointwise

/-- The vectors of the coefficient, one above the other. -/
def vecs (x5 x6 x7 x8 : FVec Ideal S64 .f32) : FVec Ideal S4x64 .f32 :=
  concatenate S4x64 0 [⟨S1x64, broadcastInDim S1x64 ![1] bcast_S64_S1x64_1 x5⟩, ⟨S1x64, broadcastInDim S1x64 ![1] bcast_S64_S1x64_1 x6⟩,
    ⟨S1x64, broadcastInDim S1x64 ![1] bcast_S64_S1x64_1 x7⟩, ⟨S1x64, broadcastInDim S1x64 ![1] bcast_S64_S1x64_1 x8⟩]
    concatenates_S1x64_S1x64_S1x64_S1x64_S4x64_d0

/-- The corner at which they are written. -/
def corner : IVec S2 32 :=
  concatenate S2 0 [⟨S1, broadcastInDim S1 ![] bcast_S_S1 (constantI S_ 32 0#32)⟩, ⟨S1, broadcastInDim S1 ![] bcast_S_S1 (constantI S_ 32 0#32)⟩]
    concatenates_S1_S1_S2_d0

theorem V_lam (c : Dev nD) : (V m c main_v9 : Vec Ideal S8x128 .f32)
    = Host.scatter scatter_S8x128_S2_S4x64_01_n_01_0 (fun _ b => b)
        (broadcastInDim S8x128 ![] bcast_S_S8x128 (constant S_ .f32 0x00000000#32 : FVec Ideal S_ .f32)) corner
        (vecs (a5 m c) (a6 m c) (a7 m c) (a8 m c)) := by
  unfold V hostOps0; after_results_simp
  rfl

theorem corner_at (i : Fin 2) : corner (ix1 i) = 0#32 := by
  fin_cases i <;> pointwise [corner]

theorem vecs_at (x5 x6 x7 x8 : FVec Ideal S64 .f32) (k : Fin 64) : vecs x5 x6 x7 x8 (ix2 0 k) = x5 (ix1 k)
    ∧ vecs x5 x6 x7 x8 (ix2 1 k) = x6 (ix1 k) ∧ vecs x5 x6 x7 x8 (ix2 2 k) = x7 (ix1 k) ∧ vecs x5 x6 x7 x8 (ix2 3 k) = x8 (ix1 k) := by
  refine ⟨?_, ?_, ?_, ?_⟩ <;> pointwise [vecs]

/-- An update lands at its own indices. -/
theorem lands (k : S4x64.Idx) (r : Fin 8) (c : Fin 128) :
    scatter_S8x128_S2_S4x64_01_n_01_0.resultIdx? k corner = some (ix2 r c) ↔ (k 0).val = r.val ∧ (k 1).val = c.val := by
  have w0 : scatter_S8x128_S2_S4x64_01_n_01_0.window k 0 = (k 0).val := rfl
  have w1 : scatter_S8x128_S2_S4x64_01_n_01_0.window k 1 = (k 1).val := rfl
  refine (resultIdx?_ix2 scatter_S8x128_S2_S4x64_01_n_01_0 k corner r c).trans ?_
  have s0 : scatter_S8x128_S2_S4x64_01_n_01_0.start k corner 0 = (corner (ix1 0)).toInt := start_pair _ rfl rfl corner k 0
  have s1 : scatter_S8x128_S2_S4x64_01_n_01_0.start k corner 1 = (corner (ix1 1)).toInt := start_pair _ rfl rfl corner k 1
  rw [s0, s1, w0, w1, corner_at, corner_at]
  have z : (0#32).toInt = 0 := rfl
  rw [z]
  omega

/-- What the scatter leaves: the vectors in the first lanes of the first rows, zero elsewhere. -/
theorem lam_rows (c : Dev nD) (r : Fin 4) (k : Fin 128) : (V m c main_v9 : Vec Ideal S8x128 .f32) (ix2 ⟨r, by omega⟩ k)
    = if h : k.val < 64 then vecs (a5 m c) (a6 m c) (a7 m c) (a8 m c) (ix2 r ⟨k, h⟩) else (0 : EReal) := by
  rw [V_lam]
  split
  · next h =>
    refine scatter_set_hit _ _ _ _ _ _ (fun k' hk' => ?_) (ix2 r ⟨k, h⟩) ((lands _ _ _).2 ⟨rfl, rfl⟩)
    obtain ⟨e0, e1⟩ := (lands _ _ _).1 hk'
    refine congrArg _ (funext fun a => Fin.ext ?_)
    match a with
    | ⟨0, _⟩ => exact e0
    | ⟨1, _⟩ => exact e1
  · next h =>
    refine (scatter_set_miss _ _ _ _ _ fun k' hk' => ?_).trans ?_
    · obtain ⟨-, e1⟩ := (lands _ _ _).1 hk'
      have : (k' 1).val < 64 := (k' 1).isLt
      omega
    · pointwise

end Cert.KernelIdeal.Attn

end
-- ==== Proof.AttnMath.lean ====
/- Real arithmetic of a softmax average taken chunk by chunk against a running maximum. -/
module

public import Mathlib.Analysis.SpecialFunctions.Pow.Real
public import Mathlib.Data.EReal.Inv
public import Mathlib.Algebra.BigOperators.Fin
public import Mathlib.Tactic.Ring
public import Mathlib.Tactic.Linarith
public import Mathlib.Tactic.FieldSimp

@[expose] public section

set_option maxRecDepth 4096

noncomputable section

namespace Cert.Attn

open scoped BigOperators

/-- The average of `v` weighted by the exponentials of `t`. -/
def avg {n : ℕ} (t v : Fin n → ℝ) : ℝ := (∑ k, Real.exp (t k) * v k) / ∑ k, Real.exp (t k)

/-- A finite sum of reals, read among the extended reals. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Weights relative to any number give the same average. -/
theorem avg_shift {n : ℕ} (t v : Fin n → ℝ) (M : ℝ) :
    (∑ k, v k * Real.exp (t k - M)) / (∑ k, Real.exp (t k - M)) = avg t v := by
  have h1 : ∑ k, v k * Real.exp (t k - M) = (∑ k, Real.exp (t k) * v k) * Real.exp (-M) := by
    rw [Finset.sum_mul]; refine Finset.sum_congr rfl fun k _ => ?_
    rw [sub_eq_add_neg, Real.exp_add]; ring
  have h2 : ∑ k, Real.exp (t k - M) = (∑ k, Real.exp (t k)) * Real.exp (-M) := by
    rw [Finset.sum_mul]; refine Finset.sum_congr rfl fun k _ => ?_
    rw [sub_eq_add_neg, Real.exp_add]
  rw [h1, h2, mul_div_mul_right _ _ (Real.exp_ne_zero _)]; rfl

/-- A power of two as an exponential. -/
theorem two_rpow (x : ℝ) : Real.rpow 2 x = Real.exp (Real.log 2 * x) := by
  show (2 : ℝ) ^ x = _
  rw [Real.rpow_def_of_pos (by norm_num)]

/-- A sum over thirteen chunks of 1280 is the sum over all. -/
theorem sum_all {M : Type} [AddCommMonoid M] (f : ℕ → M) :
    ∑ j ∈ Finset.range 13, ∑ x : Fin 1280, f (1280 * j + x.val) = ∑ k : Fin 16640, f k.val := by
  rw [Finset.sum_range, ← Fintype.sum_prod_type' (f := fun (j : Fin 13) (x : Fin 1280) => f (1280 * j.val + x.val))]
  refine Fintype.sum_equiv (finProdFinEquiv (m := 13) (n := 1280)) _ (fun k : Fin (13 * 1280) => f k.val) fun p => ?_
  have h : (finProdFinEquiv (m := 13) (n := 1280) p).val = p.2.val + 1280 * p.1.val := rfl
  rw [h, add_comm]

/-- The sums of one chunk more, when the maximum moves from `M` to `M'`. -/
theorem sums_step (S : ℕ → Fin 1280 → ℝ) (W : ℕ → Fin 1280 → ℝ) (n : ℕ) (M M' : ℝ) :
    (∑ j ∈ Finset.range n, ∑ x, W j x * Real.rpow 2 (S j x - M)) * Real.rpow 2 (M - M')
      + ∑ x, W n x * Real.rpow 2 (S n x - M') = ∑ j ∈ Finset.range (n + 1), ∑ x, W j x * Real.rpow 2 (S j x - M') := by
  rw [Finset.sum_range_succ, Finset.sum_mul]
  congr 1
  refine Finset.sum_congr rfl fun j _ => ?_
  rw [Finset.sum_mul]
  refine Finset.sum_congr rfl fun x _ => ?_
  rw [two_rpow, two_rpow, two_rpow, mul_assoc, ← Real.exp_add]
  congr 2; ring

/-- The quotient of the sums is the average, with scores in units of the natural logarithm. -/
theorem sums_quot (s w : ℕ → ℝ) (t v : Fin 16640 → ℝ) (M : ℝ) (hs : ∀ k : Fin 16640, Real.log 2 * s k.val = t k)
    (hw : ∀ k : Fin 16640, w k.val = v k) :
    (∑ j ∈ Finset.range 13, ∑ x : Fin 1280, w (1280 * j + x.val) * Real.rpow 2 (s (1280 * j + x.val) - M))
      / (∑ j ∈ Finset.range 13, ∑ x : Fin 1280, 1 * Real.rpow 2 (s (1280 * j + x.val) - M)) = avg t v := by
  rw [sum_all (fun k => w k * Real.rpow 2 (s k - M)), sum_all (fun k => 1 * Real.rpow 2 (s k - M)),
    ← avg_shift t v (Real.log 2 * M)]
  refine congrArg₂ (· / ·) ?_ ?_
  · refine Finset.sum_congr rfl fun k _ => ?_
    rw [two_rpow, mul_sub, hs, hw]
  · refine Finset.sum_congr rfl fun k _ => ?_
    rw [two_rpow, mul_sub, hs, one_mul]

end Cert.Attn

end
-- ==== Proof.AttnIdeal.lean ====
/- The steps of a tile over the extended reals, read at an index. -/
module

public import proofs.«01_k».proof.Proof.AttnWhole
public import proofs.«01_k».proof.Proof.AttnMath
public import Idealize.ShloMosaic.Lib.Pointwise
public import Idealize.ShloMosaic.Lib.IdealHost

@[expose] public section

noncomputable section

namespace Cert.KernelIdeal.Attn

open Cert.KernelIdeal Cert.KernelIdeal.Gen Idealize.ShloMosaic Idealize.ShloMosaic.TcCoe

theorem lit_one : (Scalar.ofBits (F := Ideal) .bf16 0x3F80#16 : EReal) = 1 := by
  show Ideal.ofBits .bf16 0x3F80#16 = 1
  exact Ideal.ofBits_one_bf16

theorem lit_bot : Ideal.ofBits .f32 0xFF800000#32 = ⊥ := by
  simp [Ideal.ofBits, Ideal.ieee]

theorem scores_at (kc : FVec Ideal S1280x128 .bf16) (q : FVec Ideal S1x512x128 .bf16) (x : Fin 1280) (j : Fin 512) :
    scoresVal kc q (ix3 0 x j) = ∑ k : Fin 128, kc (ix2 x k) * q (ix3 0 j k) := by
  pointwise [scoresVal]

theorem mNew_at (s : FVec Ideal S1x1280x512 .f32) (m : FVec Ideal S1x512 .f32) (j : Fin 512) :
    mNew s m (ix2 0 j) = max (m (ix2 0 j)) (Finset.univ.fold max ⊥ fun x : Fin 1280 => s (ix3 0 x j)) := by
  pointwise [mNew, sFlat]
  rw [lit_bot]

theorem aNew_at (vc : FVec Ideal S144x1280 .bf16) (s : FVec Ideal S1x1280x512 .f32) (m : FVec Ideal S1x512 .f32)
    (a : FVec Ideal S144x512 .f32) (d : Fin 144) (j : Fin 512) :
    aNew vc s m a (ix2 d j) = a (ix2 d j) * Ideal.exp2 (m (ix2 0 j) - mNew s m (ix2 0 j))
      + ∑ x : Fin 1280, vc (ix2 d x) * Ideal.exp2 (s (ix3 0 x j) - mNew s m (ix2 0 j)) := by
  pointwise [aNew, alpha, pVal, sFlat]
  rfl

theorem diff_at (lam : FVec Ideal S1x1 .f32) (a : FVec Ideal S144x512 .f32) (r : Fin 256) (e : Fin 128) :
    diff lam a (ix2 r e) = Ideal.div (a (ix2 ⟨e, by omega⟩ ⟨r, by omega⟩)) (a (ix2 128 ⟨r, by omega⟩))
      - lam (ix2 0 0) * Ideal.div (a (ix2 ⟨e, by omega⟩ ⟨256 + r, by omega⟩)) (a (ix2 128 ⟨256 + r, by omega⟩)) := by
  pointwise [diff, quot]

theorem outVal_at (lam : FVec Ideal S1x1 .f32) (gain : FVec Ideal S1x128 .f32) (a : FVec Ideal S144x512 .f32) (r : Fin 256) (e : Fin 128) :
    outVal lam gain a (ix2 r e) = diff lam a (ix2 r e) * Ideal.rsqrt (Ideal.div (∑ k : Fin 128, diff lam a (ix2 r k) * diff lam a (ix2 r k))
      (Ideal.ofBits .f32 0x43000000#32) + Ideal.ofBits .f32 0x358637BD#32) * gain (ix2 0 e) := by
  pointwise [outVal, rms]

/-- Which lanes belong to the first group. -/
theorem lane_lt : ∀ k : Fin 128, IntOp.cmpi .slt (BitVec.ofNat 32 k.val) 64#32 = if k.val < 64 then 1#1 else 0#1 := by decide

theorem lane_ge : ∀ k : Fin 128, IntOp.cmpi .sge (BitVec.ofNat 32 k.val) 64#32 = if k.val < 64 then 0#1 else 1#1 := by decide

theorem qq_low (q : FVec Ideal S256x128 .bf16) (j : Fin 512) (h : j.val < 256) (k : Fin 128) :
    qq lanes q (ix3 0 j k) = if k.val < 64 then q (ix2 ⟨j, h⟩ k) else 0 := by
  unfold qq stackQ
  rw [dif_pos (show ((ix3 (n0 := 1) (n1 := 512) (n2 := 128) 0 j k) 1).val < 256 from h)]
  pointwise [qLow, lanes]
  rw [lane_lt]
  split <;> rfl

theorem qq_high (q : FVec Ideal S256x128 .bf16) (j : Fin 512) (h : ¬ j.val < 256) (k : Fin 128) :
    qq lanes q (ix3 0 j k) = if k.val < 64 then 0 else q (ix2 ⟨j.val - 256, by omega⟩ k) := by
  unfold qq stackQ
  rw [dif_neg (show ¬ ((ix3 (n0 := 1) (n1 := 512) (n2 := 128) 0 j k) 1).val < 256 from h)]
  pointwise [qHigh, lanes]
  rw [lane_ge]
  split <;> rfl

theorem lam_at (x : FVec Ideal S8x128 .f32) : (k0_pay175 (F := Ideal) x : FVec Ideal S1x1 .f32) (ix2 0 0) =
    Ideal.exp (∑ k : Fin 128, x (ix2 0 k) * x (ix2 1 k)) - Ideal.exp (∑ k : Fin 128, x (ix2 2 k) * x (ix2 3 k))
      + Ideal.ofBits .f32 0x3E4CCCCD#32 := by
  pointwise [k0_pay175]

theorem gain_at (x : FVec Ideal S1x128 .f32) (e : Fin 128) : (k0_pay176 (F := Ideal) x : FVec Ideal S1x128 .f32) (ix2 0 e) = x (ix2 0 e) * Ideal.ofBits .f32 0x3F4CCCCD#32 := by
  pointwise [k0_pay176]

end Cert.KernelIdeal.Attn

end
-- ==== Proof.AttnFormula.lean ====
/- Differential attention as a formula over the extended reals, one row and one head at a time. -/
module

public import Idealize.ShloMosaic.Lib.Pointwise
public import Mathlib.Algebra.BigOperators.Fin

@[expose] public section

noncomputable section

namespace Cert.Attn

open Idealize.ShloMosaic
open scoped BigOperators

/-- The score of a query against a key. -/
def score (q k : Fin 64 → EReal) : EReal := (∑ d, q d * k d) * Ideal.ofBits .f32 0x3E000000#32

/-- The entries of two sequences, one after the other. -/
def joined {α : Type} (xl : Fin 16384 → α) (xc : Fin 256 → α) (k : Fin 16640) : α :=
  if h : k.val < 16384 then xl ⟨k.val, h⟩ else xc ⟨k.val - 16384, by omega⟩

/-- The weight of a key in a row of scores, its exponentials taken relative to `M`. -/
def weight (s : Fin 16640 → EReal) (M : EReal) (k : Fin 16640) : EReal :=
  Ideal.div (Ideal.exp (s k - M)) (∑ k, Ideal.exp (s k - M))

/-- The coefficient of the second group. -/
def coef (a b c d : Fin 64 → EReal) : EReal :=
  Ideal.exp (∑ k, a k * b k) - Ideal.exp (∑ k, c k * d k) + Ideal.ofBits .f32 0x3E4CCCCD#32

/-- The values averaged with the difference of the two groups' weights. -/
def mixed (lam : EReal) (s : Fin 2 → Fin 16640 → EReal) (M : Fin 2 → EReal) (v : Fin 16640 → EReal) : EReal :=
  ∑ k, v k * (weight (s 0) (M 0) k - lam * weight (s 1) (M 1) k)

/-- The normalised row. -/
def normal (o gain : Fin 128 → EReal) (e : Fin 128) : EReal :=
  o e * Ideal.rsqrt (Ideal.div (∑ k, o k * o k) (Ideal.ofBits .f32 0x43000000#32) + Ideal.ofBits .f32 0x358637BD#32) * gain e
    * Ideal.ofBits .f32 0x3F4CCCCD#32

/-- A finite float word is a real number. -/
theorem ieee_real (e m : ℕ) {w : ℕ} (b : BitVec w) (h : (b.extractLsb' m e).toNat ≠ 2 ^ e - 1) : ∃ r : ℝ, Ideal.ieee e m b = (r : EReal) := by
  unfold Ideal.ieee
  simp only [if_neg h]
  split
  · exact ⟨_, rfl⟩
  · exact ⟨_, rfl⟩

theorem lit_bot : Ideal.ofBits .f32 0xFF800000#32 = ⊥ := by simp [Ideal.ofBits, Ideal.ieee]

/-- The larger of a real and finitely many reals is real. -/
theorem max_real (M : ℝ) {ι : Type} (f : ι → EReal) (g : ι → ℝ) (h : ∀ i, f i = (g i : EReal)) (s : Finset ι) :
    ∃ M' : ℝ, max (M : EReal) (s.fold max ⊥ f) = (M' : EReal) := by
  classical
  induction s using Finset.induction_on with
  | empty => exact ⟨M, by rw [Finset.fold_empty]; exact max_eq_left bot_le⟩
  | insert a s ha ih =>
    obtain ⟨M', hM⟩ := ih
    refine ⟨max (g a) M', ?_⟩
    rw [Finset.fold_insert ha, max_left_comm, hM, h]
    exact (EReal.coe_strictMono.monotone.map_max).symm

/-- The largest of finitely many reals, one at least, is real. -/
theorem fold_real {ι : Type} (f : ι → EReal) (g : ι → ℝ) (h : ∀ i, f i = (g i : EReal)) (s : Finset ι) (i : ι) (hi : i ∈ s) :
    ∃ M : ℝ, s.fold max ⊥ f = (M : EReal) := by
  classical
  obtain ⟨M, hM⟩ := max_real (g i) f g h (s.erase i)
  refine ⟨M, ?_⟩
  rw [← hM, ← h, ← Finset.insert_erase hi, Finset.fold_insert (Finset.notMem_erase i s), Finset.erase_insert (Finset.notMem_erase i s)]

/-- A host maximum of reals is real, where anything at all is reduced. -/
theorem reduce_real {s t u : Shape} {axes : List (Fin s.rank)} (x : s.Idx → EReal) (X : s.Idx → ℝ) (hx : ∀ i, x i = (X i : EReal))
    (init : u.Idx → EReal) (hb : ∀ i, init i = ⊥) (h : s.ReducesTo axes t) (hu : 0 < u.numel) (j : t.Idx) (i : s.Idx) (hi : h.drop i = j) :
    ∃ M : ℝ, Host.reduce (FloatOps.maximumf : Ideal .f32 → Ideal .f32 → Ideal .f32) x init h hu j = (M : EReal) := by
  rw [Host.reduce_eq_fold, hb]
  exact fold_real x X hx _ i (Finset.mem_filter.2 ⟨Finset.mem_univ _, hi⟩)

/-- A sum split in two. -/
theorem sum_split {M : Type} [AddCommMonoid M] (a b n : ℕ) (h : n = a + b) (f : Fin n → M) :
    ∑ k, f k = (∑ k : Fin a, f ⟨k.val, by omega⟩) + ∑ k : Fin b, f ⟨a + k.val, by omega⟩ := by
  subst h
  exact Fin.sum_univ_add f

theorem joined_low {α : Type} (xl : Fin 16384 → α) (xc : Fin 256 → α) (k : Fin 16384) (h : k.val < 16640) : joined xl xc ⟨k.val, h⟩ = xl k :=
  dif_pos k.isLt

theorem joined_high {α : Type} (xl : Fin 16384 → α) (xc : Fin 256 → α) (k : Fin 256) (h : 16384 + k.val < 16640) :
    joined xl xc ⟨16384 + k.val, h⟩ = xc k :=
  (dif_neg (show ¬ 16384 + k.val < 16384 by omega)).trans (congrArg xc (Fin.ext (Nat.add_sub_cancel_left 16384 k.val)))

/-- A sum over both sequences. -/
theorem sum_joined (xl : Fin 16384 → EReal) (xc : Fin 256 → EReal) (d : Fin 16640 → EReal) :
    (∑ k : Fin 16384, xl k * d ⟨k.val, by omega⟩) + ∑ k : Fin 256, xc k * d ⟨16384 + k.val, by omega⟩ = ∑ k, joined xl xc k * d k := by
  rw [sum_split 16384 256 16640 (by norm_num) (fun k => joined xl xc k * d k)]
  simp only [joined_low, joined_high]

end Cert.Attn

end
-- ==== Proof.AttnStat.lean ====
/- The running statistics of a tile over the extended reals: at every chunk the maximum is a real number and the sums are
   those of the powers of two relative to it; the quotient at the end is the softmax average. -/
module

public import proofs.«01_k».proof.Proof.AttnIdeal
public import proofs.«01_k».proof.Proof.AttnFormula

@[expose] public section

noncomputable section

namespace Cert.KernelIdeal.Attn

open Cert.KernelIdeal Cert.KernelIdeal.Gen Idealize.ShloMosaic Idealize.ShloMosaic.TcCoe
open scoped BigOperators

theorem mInit_real (j : Fin 512) : ∃ M : ℝ, (mInit (F := Ideal)) (ix2 0 j) = (M : EReal) :=
  Cert.Attn.ieee_real 8 23 0xF149F2CA#32 (by decide)

theorem aInit_zero (d : Fin 144) (j : Fin 512) : (aInit (F := Ideal)) (ix2 d j) = (0 : EReal) := by
  pointwise [aInit]

/-- The statistics before chunk `n`, from real scores `S` and values `W`. -/
theorem stats (kc : ℕ → FVec Ideal S1280x128 .bf16) (vc : ℕ → FVec Ideal S144x1280 .bf16) (q : FVec Ideal S1x512x128 .bf16) (j : Fin 512)
    (S : ℕ → Fin 1280 → ℝ) (hs : ∀ n x, scoresVal (kc n) q (ix3 0 x j) = (S n x : EReal)) (n : ℕ) :
    ∃ M : ℝ, mSt kc q n (ix2 0 j) = (M : EReal) ∧ ∀ (d : Fin 144) (W : ℕ → Fin 1280 → ℝ), (∀ n x, vc n (ix2 d x) = (W n x : EReal)) →
      aSt kc vc q n (ix2 d j) = ((∑ i ∈ Finset.range n, ∑ x, W i x * Real.rpow 2 (S i x - M) : ℝ) : EReal) := by
  induction n with
  | zero =>
    obtain ⟨M, hM⟩ := mInit_real j
    refine ⟨M, hM, fun d W _ => ?_⟩
    rw [Finset.sum_range_zero]
    exact aInit_zero d j
  | succ n ih =>
    obtain ⟨M, hM, ha⟩ := ih
    have hm : mSt kc q (n + 1) (ix2 0 j) = max (M : EReal) (Finset.univ.fold max ⊥ fun x : Fin 1280 => scoresVal (kc n) q (ix3 0 x j)) := by
      rw [mSt.eq_2, mNew_at, hM]
    obtain ⟨M', hM'⟩ := Cert.Attn.max_real M (fun x : Fin 1280 => scoresVal (kc n) q (ix3 0 x j)) (S n) (hs n) Finset.univ
    have hn : mNew (scoresVal (kc n) q) (mSt kc q n) (ix2 0 j) = (M' : EReal) := hm.trans hM'
    refine ⟨M', hn, fun d W hW => ?_⟩
    rw [aSt.eq_2, aNew_at, hn, hM, ha d W hW, ← Cert.Attn.sums_step S W n M M', EReal.coe_add, EReal.coe_mul,
      Cert.Attn.coe_sum Finset.univ (fun x => W n x * Real.rpow 2 (S n x - M'))]
    rw [← EReal.coe_sub, Ideal.exp2_coe]
    refine congrArg₂ (fun a b : EReal => a + b) rfl (Finset.sum_congr rfl fun x _ => ?_)
    rw [hW, hs, ← EReal.coe_sub, Ideal.exp2_coe, EReal.coe_mul]

/-- The quotient of reals. -/
theorem div_real (x y : ℝ) (h : y ≠ 0) : Ideal.div (x : EReal) (y : EReal) = ((x / y : ℝ) : EReal) := by
  rw [Ideal.div_coe h, ← EReal.coe_mul]
  congr 1
  ring

/-- The quotient of the sums after all chunks: the average. -/
theorem quot_real (kc : ℕ → FVec Ideal S1280x128 .bf16) (vc : ℕ → FVec Ideal S144x1280 .bf16) (q : FVec Ideal S1x512x128 .bf16) (j : Fin 512)
    (s : ℕ → ℝ) (hs : ∀ n (x : Fin 1280), scoresVal (kc n) q (ix3 0 x j) = (s (1280 * n + x.val) : EReal))
    (e : Fin 144) (w : ℕ → ℝ) (hw : ∀ n (x : Fin 1280), vc n (ix2 e x) = (w (1280 * n + x.val) : EReal))
    (hone : ∀ n (x : Fin 1280), vc n (ix2 128 x) = (1 : EReal)) (t v : Fin 16640 → ℝ) (ht : ∀ k : Fin 16640, Real.log 2 * s k.val = t k)
    (hv : ∀ k : Fin 16640, w k.val = v k) :
    Ideal.div (aSt kc vc q 13 (ix2 e j)) (aSt kc vc q 13 (ix2 128 j)) = ((Cert.Attn.avg t v : ℝ) : EReal) := by
  obtain ⟨M, -, ha⟩ := stats kc vc q j (fun n x => s (1280 * n + x.val)) hs 13
  rw [ha e (fun n x => w (1280 * n + x.val)) hw, ha 128 (fun _ _ => 1) (fun n x => by rw [hone, EReal.coe_one]), div_real, Cert.Attn.sums_quot s w t v M ht hv]
  rw [Cert.Attn.sum_all (fun k => 1 * Real.rpow 2 (s k - M))]
  refine ne_of_gt (Finset.sum_pos (fun k _ => ?_) ⟨0, Finset.mem_univ _⟩)
  rw [one_mul, Cert.Attn.two_rpow]
  exact Real.exp_pos _

end Cert.KernelIdeal.Attn

end
-- ==== Proof.AttnHead.lean ====
/- One head of the attention kernel over the extended reals: what its block of the result holds, when the blocks it reads
   hold real numbers. -/
module

public import proofs.«01_k».proof.Proof.AttnStat

@[expose] public section

noncomputable section

namespace Cert.KernelIdeal.Attn

open Cert.KernelIdeal Cert.KernelIdeal.Gen Idealize.ShloMosaic Idealize.ShloMosaic.TcCoe
open scoped BigOperators

/-- A key's position, however far it is counted. -/
abbrev pos (n : ℕ) : Fin 16640 := ⟨min n 16639, by omega⟩

theorem pos_val (k : Fin 16640) : pos k.val = k := Fin.ext (min_eq_left (by omega))

variable (X1 X4 X5 : FVec Ideal S16384x128 .bf16) (X6 X7 : FVec Ideal S256x128 .bf16)
  (Q : Fin 16384 → Fin 128 → ℝ) (K W : Fin 16640 → Fin 128 → ℝ)

/-- The raw score of a row of queries against a key, in group `g`'s lanes. -/
def raw (g : Fin 2) (r : Fin 16384) (k : Fin 16640) : ℝ :=
  ∑ d : Fin 64, K k ⟨64 * g.val + d.val, by omega⟩ * Q r ⟨64 * g.val + d.val, by omega⟩

theorem vG_one (k : Fin 16640) : vG X5 X7 (ix2 128 k) = (1 : EReal) := by
  unfold vG
  rw [dif_neg (show ¬ ((ix2 (n0 := 144) (n1 := 16640) 128 k) 0).val < 128 from by show ¬ 128 < 128; omega)]
  exact lit_one

/-- A sum over all lanes with the second half zero. -/
theorem sum_low (f : Fin 128 → EReal) (h : ∀ d : Fin 128, ¬ d.val < 64 → f d = 0) : ∑ d, f d = ∑ d : Fin 64, f ⟨d.val, by omega⟩ := by
  rw [Cert.Attn.sum_split 64 64 128 rfl]
  rw [Finset.sum_eq_zero (s := Finset.univ) (f := fun k : Fin 64 => f ⟨64 + k.val, by omega⟩) fun k _ => h _ (by simp), add_zero]

/-- The same with the first half zero. -/
theorem sum_high (f : Fin 128 → EReal) (h : ∀ d : Fin 128, d.val < 64 → f d = 0) : ∑ d, f d = ∑ d : Fin 64, f ⟨64 + d.val, by omega⟩ := by
  rw [Cert.Attn.sum_split 64 64 128 rfl]
  rw [Finset.sum_eq_zero (s := Finset.univ) (f := fun k : Fin 64 => f ⟨k.val, by omega⟩) fun k _ => h _ (by exact k.isLt), zero_add]

/-- A row of the tile `j`. -/
abbrev rowAt (j : Fin 64) (r : Fin 256) : Fin 16384 := ⟨256 * j.val + r.val, by omega⟩

theorem scores_low (hQ : ∀ r d, X1 (ix2 r d) = (Q r d : EReal)) (hK : ∀ k d, kG X4 X6 (ix2 k d) = (K k d : EReal)) (j : Fin 64) (r : Fin 256)
    (n : ℕ) (x : Fin 1280) : scoresVal (kcG X4 X6 n) (qG X1 j.val) (ix3 0 x ⟨r.val, by omega⟩) = (raw Q K 0 (rowAt j r) (pos (1280 * n + x.val)) : EReal) := by
  have hr : (⟨min (256 * j.val + r.val) 16383, by omega⟩ : Fin 16384) = rowAt j r := Fin.ext (min_eq_left (by omega))
  rw [scores_at, sum_low]
  · unfold raw
    rw [Cert.Attn.coe_sum]
    refine Finset.sum_congr rfl fun d _ => ?_
    unfold qG
    rw [qq_low _ _ (show r.val < 256 from r.isLt), if_pos (show d.val < 64 from d.isLt), EReal.coe_mul, ← hK, ← hQ]
    refine congrArg₂ (fun a b : EReal => a * b) ?_ ?_
    · show kG X4 X6 (ix2 _ _) = _
      exact congrArg (fun d => kG X4 X6 (ix2 _ d)) (Fin.ext (show d.val = 64 * 0 + d.val by omega))
    · show X1 (ix2 ⟨min (256 * j.val + r.val) 16383, _⟩ _) = _
      rw [hr]
      exact congrArg (fun d => X1 (ix2 _ d)) (Fin.ext (show d.val = 64 * 0 + d.val by omega))
  · intro d hd
    unfold qG
    rw [qq_low _ _ (show r.val < 256 from r.isLt), if_neg hd, mul_zero]

theorem scores_high (hQ : ∀ r d, X1 (ix2 r d) = (Q r d : EReal)) (hK : ∀ k d, kG X4 X6 (ix2 k d) = (K k d : EReal)) (j : Fin 64) (r : Fin 256)
    (n : ℕ) (x : Fin 1280) : scoresVal (kcG X4 X6 n) (qG X1 j.val) (ix3 0 x ⟨256 + r.val, by omega⟩) = (raw Q K 1 (rowAt j r) (pos (1280 * n + x.val)) : EReal) := by
  have hr : (⟨min (256 * j.val + (256 + r.val - 256)) 16383, by omega⟩ : Fin 16384) = rowAt j r :=
    Fin.ext (show min (256 * j.val + (256 + r.val - 256)) 16383 = 256 * j.val + r.val by omega)
  rw [scores_at, sum_high]
  · unfold raw
    rw [Cert.Attn.coe_sum]
    refine Finset.sum_congr rfl fun d _ => ?_
    unfold qG
    rw [qq_high _ _ (show ¬ 256 + r.val < 256 by omega), if_neg (show ¬ 64 + d.val < 64 by omega), EReal.coe_mul, ← hK, ← hQ]
    refine congrArg₂ (fun a b : EReal => a * b) ?_ ?_
    · show kG X4 X6 (ix2 _ _) = _
      exact congrArg (fun d => kG X4 X6 (ix2 _ d)) (Fin.ext (show 64 + d.val = 64 * 1 + d.val by omega))
    · show X1 (ix2 ⟨min (256 * j.val + (256 + r.val - 256)) 16383, _⟩ _) = _
      rw [hr]
      exact congrArg (fun d => X1 (ix2 _ d)) (Fin.ext (show 64 + d.val = 64 * 1 + d.val by omega))
  · intro d hd
    unfold qG
    rw [qq_high _ _ (show ¬ 256 + r.val < 256 by omega), if_pos hd, mul_zero]

/-- One group's quotient at a column of a tile. -/
theorem quot_group (hW : ∀ k (e : Fin 128), vG X5 X7 (ix2 ⟨e.val, by omega⟩ k) = (W k e : EReal)) (col : Fin 512) (q : FVec Ideal S1x512x128 .bf16)
    (s : Fin 16640 → ℝ) (hs : ∀ n (x : Fin 1280), scoresVal (kcG X4 X6 n) q (ix3 0 x col) = (s (pos (1280 * n + x.val)) : EReal)) (e : Fin 128) :
    Ideal.div (aSt (kcG X4 X6) (vcG X5 X7) q 13 (ix2 ⟨e.val, by omega⟩ col)) (aSt (kcG X4 X6) (vcG X5 X7) q 13 (ix2 128 col))
      = ((Cert.Attn.avg (fun k => Real.log 2 * s k) (fun k => W k e) : ℝ) : EReal) :=
  quot_real (kcG X4 X6) (vcG X5 X7) q col (fun n => s (pos n)) hs ⟨e.val, by omega⟩ (fun n => W (pos n) e) (fun _ _ => hW _ e)
    (fun _ _ => vG_one X5 X7 _) _ _ (fun k => by rw [pos_val]) (fun k => by rw [pos_val])

/-- The result's block at a row and a lane. -/
theorem head_at (X2 : FVec Ideal S8x128 .f32) (X3 : FVec Ideal S1x128 .f32)
    (hQ : ∀ r d, X1 (ix2 r d) = (Q r d : EReal)) (hK : ∀ k d, kG X4 X6 (ix2 k d) = (K k d : EReal))
    (hW : ∀ k (e : Fin 128), vG X5 X7 (ix2 ⟨e.val, by omega⟩ k) = (W k e : EReal)) (lam : EReal)
    (hlam : (k0_pay175 (F := Ideal) X2 : FVec Ideal S1x1 .f32) (ix2 0 0) = lam) (row : Fin 16384) (e : Fin 128) :
    outG X1 X2 X3 X4 X5 X6 X7 (ix2 row e) = Cert.Attn.normal
      (fun e => ((Cert.Attn.avg (fun k => Real.log 2 * raw Q K 0 row k) (fun k => W k e) : ℝ) : EReal)
        - lam * ((Cert.Attn.avg (fun k => Real.log 2 * raw Q K 1 row k) (fun k => W k e) : ℝ) : EReal))
      (fun e => X3 (ix2 0 e)) e := by
  have hrow : rowAt ⟨row.val / 256, by omega⟩ ⟨row.val % 256, by omega⟩ = row := Fin.ext (show 256 * (row.val / 256) + row.val % 256 = row.val by omega)
  have hd : ∀ e : Fin 128, diff (k0_pay175 X2) (aSt (kcG X4 X6) (vcG X5 X7) (qG X1 (row.val / 256)) 13) (ix2 ⟨row.val % 256, by omega⟩ e)
      = ((Cert.Attn.avg (fun k => Real.log 2 * raw Q K 0 row k) (fun k => W k e) : ℝ) : EReal)
        - lam * ((Cert.Attn.avg (fun k => Real.log 2 * raw Q K 1 row k) (fun k => W k e) : ℝ) : EReal) := fun e => by
    rw [diff_at, hlam,
      quot_group X4 X5 X6 X7 W hW _ _ (raw Q K 0 row) (fun n x => by
        rw [scores_low X1 X4 X6 Q K hQ hK ⟨row.val / 256, by omega⟩ ⟨row.val % 256, by omega⟩ n x, hrow]) e,
      quot_group X4 X5 X6 X7 W hW _ _ (raw Q K 1 row) (fun n x => by
        rw [scores_high X1 X4 X6 Q K hQ hK ⟨row.val / 256, by omega⟩ ⟨row.val % 256, by omega⟩ n x, hrow]) e]
  show outVal (k0_pay175 X2) (k0_pay176 X3) (aSt (kcG X4 X6) (vcG X5 X7) (qG X1 (row.val / 256)) 13) (ix2 ⟨row.val % 256, by omega⟩ e) = _
  rw [outVal_at, gain_at]
  simp only [hd]
  unfold Cert.Attn.normal
  simp only [mul_assoc]

end Cert.KernelIdeal.Attn

end
-- ==== Proof.AttnRow.lean ====
/- Differential attention of real arrays: one row, one head, in real arithmetic. -/
module

public import proofs.«01_k».proof.Proof.AttnFormula
public import proofs.«01_k».proof.Proof.AttnMath
public import Idealize.ShloMosaic.Lib.Pointwise

@[expose] public section

noncomputable section

namespace Cert.Attn

open Idealize.ShloMosaic
open scoped BigOperators

/-- Every entry is a real number. -/
def Finite {ι : Type} (x : ι → EReal) : Prop := ∀ i, x i = ((x i).toReal : EReal)

theorem joined_coe (xl : Fin 16384 → ℝ) (xc : Fin 256 → ℝ) (k : Fin 16640) :
    joined (fun k => (xl k : EReal)) (fun k => (xc k : EReal)) k = ((joined xl xc k : ℝ) : EReal) := by
  unfold joined
  split <;> rfl

/-- The quotient of reals. -/
theorem div_real (x y : ℝ) (h : y ≠ 0) : Ideal.div (x : EReal) (y : EReal) = ((x / y : ℝ) : EReal) := by
  rw [Ideal.div_coe h, ← EReal.coe_mul]
  congr 1
  ring

theorem lit_eighth : Ideal.ofBits .f32 0x3E000000#32 = ((1 / 8 : ℝ) : EReal) := by
  simp [Ideal.ofBits, Ideal.ieee]
  refine (EReal.coe_mul 8388608 _).symm.trans (congrArg Real.toEReal ?_)
  norm_num

theorem lit_two : Ideal.ofBits .f32 0x40000000#32 = ((2 : ℝ) : EReal) := by
  simp [Ideal.ofBits, Ideal.ieee]
  refine (EReal.coe_mul 8388608 _).symm.trans (congrArg Real.toEReal ?_)
  norm_num

/-- The kernel's scale of the queries: an eighth, in units of the logarithm of two. -/
theorem lit_scale : Ideal.div (Ideal.ofBits .f32 0x3E000000#32) (Ideal.log (Ideal.ofBits .f32 0x40000000#32)) = ((1 / 8 / Real.log 2 : ℝ) : EReal) := by
  rw [lit_two, lit_eighth, Ideal.log_coe, if_neg (by norm_num), div_real _ _ (ne_of_gt (Real.log_pos (by norm_num)))]

theorem score_real (q k : Fin 64 → ℝ) : score (fun d => (q d : EReal)) (fun d => (k d : EReal)) = (((∑ d, q d * k d) * (1 / 8) : ℝ) : EReal) := by
  unfold score
  rw [lit_eighth, EReal.coe_mul, coe_sum]
  simp only [EReal.coe_mul]

theorem coef_real (a b c d : Fin 64 → EReal) (ha : Finite a) (hb : Finite b) (hc : Finite c) (hd : Finite d) :
    ∃ l : ℝ, coef a b c d = (l : EReal) := by
  obtain ⟨z, hz⟩ := ieee_real 8 23 0x3E4CCCCD#32 (by decide)
  have hz' : Ideal.ofBits .f32 0x3E4CCCCD#32 = (z : EReal) := hz
  refine ⟨Real.exp (∑ k, (a k).toReal * (b k).toReal) - Real.exp (∑ k, (c k).toReal * (d k).toReal) + z, ?_⟩
  unfold coef
  rw [hz', Finset.sum_congr rfl fun k _ => show a k * b k = (((a k).toReal * (b k).toReal : ℝ) : EReal) by rw [EReal.coe_mul, ← ha k, ← hb k],
    Finset.sum_congr rfl fun k _ => show c k * d k = (((c k).toReal * (d k).toReal : ℝ) : EReal) by rw [EReal.coe_mul, ← hc k, ← hd k],
    ← coe_sum, ← coe_sum, Ideal.exp_coe, Ideal.exp_coe, ← EReal.coe_sub, ← EReal.coe_add]

theorem weight_real (t : Fin 16640 → ℝ) (M : ℝ) (k : Fin 16640) :
    weight (fun k => (t k : EReal)) (M : EReal) k = ((Real.exp (t k - M) / ∑ k, Real.exp (t k - M) : ℝ) : EReal) := by
  unfold weight
  simp only [← EReal.coe_sub, Ideal.exp_coe]
  rw [← coe_sum, div_real]
  exact ne_of_gt (Finset.sum_pos (fun k _ => Real.exp_pos _) ⟨0, Finset.mem_univ _⟩)

theorem mixed_real (l : ℝ) (t : Fin 2 → Fin 16640 → ℝ) (M : Fin 2 → ℝ) (v : Fin 16640 → ℝ) :
    mixed (l : EReal) (fun g k => (t g k : EReal)) (fun g => (M g : EReal)) (fun k => (v k : EReal))
      = ((avg (t 0) v : ℝ) : EReal) - (l : EReal) * ((avg (t 1) v : ℝ) : EReal) := by
  unfold mixed
  simp only [weight_real, ← EReal.coe_mul, ← EReal.coe_sub]
  rw [← coe_sum, ← avg_shift (t 0) v (M 0), ← avg_shift (t 1) v (M 1)]
  refine congrArg Real.toEReal ?_
  rw [Finset.sum_div, Finset.sum_div, Finset.mul_sum, ← Finset.sum_sub_distrib]
  refine Finset.sum_congr rfl fun k _ => ?_
  ring

/-! ## From the arrays -/

variable (x0 x1 : (⟨5, ![1, 16384, 2, 8, 64]⟩ : Shape).Idx → EReal) (x2 : (⟨4, ![1, 16384, 8, 128]⟩ : Shape).Idx → EReal)
  (x3 : (⟨5, ![1, 256, 2, 8, 64]⟩ : Shape).Idx → EReal) (x4 : (⟨4, ![1, 256, 8, 128]⟩ : Shape).Idx → EReal)
  (x5 x6 x7 x8 : (⟨1, ![64]⟩ : Shape).Idx → EReal) (x9 : (⟨1, ![128]⟩ : Shape).Idx → EReal)

/-- A head's keys in one lane of group `g`. -/
def keyR (h : Fin 8) (g : Fin 2) (d : Fin 64) (k : Fin 16640) : ℝ :=
  joined (fun k => (x1 (ix5 0 k g h d)).toReal) (fun k => (x3 (ix5 0 k g h d)).toReal) k

/-- A head's values in one lane. -/
def valR (h : Fin 8) (e : Fin 128) (k : Fin 16640) : ℝ :=
  joined (fun k => (x2 (ix4 0 k h e)).toReal) (fun k => (x4 (ix4 0 k h e)).toReal) k

/-- The scaled score of a row against a key. -/
def scoreR (r : Fin 16384) (h : Fin 8) (g : Fin 2) (k : Fin 16640) : ℝ :=
  (∑ d, (x0 (ix5 0 r g h d)).toReal * keyR x1 x3 h g d k) * (1 / 8)

/-- The coefficient of the second group. -/
def coefE : EReal := coef (fun k => x5 (ix1 k)) (fun k => x6 (ix1 k)) (fun k => x7 (ix1 k)) (fun k => x8 (ix1 k))

/-- A row's difference of averages in one head. -/
def headE (r : Fin 16384) (h : Fin 8) (e : Fin 128) : EReal :=
  ((avg (scoreR x0 x1 x3 r h 0) (valR x2 x4 h e) : ℝ) : EReal) - coefE x5 x6 x7 x8 * ((avg (scoreR x0 x1 x3 r h 1) (valR x2 x4 h e) : ℝ) : EReal)

/-- The result at a row and a column. -/
def outE (r : Fin 16384) (j : Fin 1024) : EReal :=
  normal (headE x0 x1 x2 x3 x4 x5 x6 x7 x8 r ⟨j.val / 128, by omega⟩) (fun e => x9 (ix1 e)) ⟨j.val % 128, Nat.mod_lt _ (by omega)⟩

theorem key_coe (h1 : Finite x1) (h3 : Finite x3) (h : Fin 8) (g : Fin 2) (d : Fin 64) (k : Fin 16640) :
    joined (fun k => x1 (ix5 0 k g h d)) (fun k => x3 (ix5 0 k g h d)) k = (keyR x1 x3 h g d k : EReal) := by
  unfold keyR
  rw [← joined_coe]
  unfold joined
  simp only [← h1 _, ← h3 _]

theorem val_coe (h2 : Finite x2) (h4 : Finite x4) (h : Fin 8) (e : Fin 128) (k : Fin 16640) :
    joined (fun k => x2 (ix4 0 k h e)) (fun k => x4 (ix4 0 k h e)) k = (valR x2 x4 h e k : EReal) := by
  unfold valR
  rw [← joined_coe]
  unfold joined
  simp only [← h2 _, ← h4 _]

theorem score_coe (h0 : Finite x0) (h1 : Finite x1) (h3 : Finite x3) (r : Fin 16384) (h : Fin 8) (g : Fin 2) (k : Fin 16640) :
    score (fun d => x0 (ix5 0 r g h d)) (fun d => joined (fun k => x1 (ix5 0 k g h d)) (fun k => x3 (ix5 0 k g h d)) k)
      = (scoreR x0 x1 x3 r h g k : EReal) := by
  unfold scoreR
  rw [← score_real]
  congr 1
  · funext d; exact h0 _
  · funext d; exact key_coe x1 x3 h1 h3 h g d k

end Cert.Attn

end
-- ==== Proof.AttnValue.lean ====
/- What the attention kernel's result array holds after the run. -/
module

public import proofs.«01_k».proof.Proof.AttnHost
public import proofs.«01_k».proof.Proof.AttnHead
public import proofs.«01_k».proof.Proof.AttnRow

@[expose] public section

noncomputable section

namespace Cert.KernelIdeal.Attn

open Cert.KernelIdeal Cert.KernelIdeal.Gen Idealize.ShloMosaic Idealize.ShloMosaic.TcCoe Idealize.SL.Sem
open Idealize.ShloMosaic.Pipeline (Dat)
open Cert.Attn (Finite keyR valR scoreR coefE headE outE)
open scoped BigOperators

variable (m : (ℓ : Loc nD τ sig) → Buf (Elt Ideal) ℓ)

/-! ## The blocks a head reads -/

/-- The block index maps, at every head. -/
theorem head_index : ∀ t : Fin cfg0.N, (win0_0.index t 0 = 0 ∧ win0_0.index t 1 = t.val) ∧ (win0_3.index t 0 = 0 ∧ win0_3.index t 1 = t.val)
    ∧ (win0_4.index t 0 = 0 ∧ win0_4.index t 1 = t.val) ∧ (win0_5.index t 0 = 0 ∧ win0_5.index t 1 = t.val)
    ∧ (win0_6.index t 0 = 0 ∧ win0_6.index t 1 = t.val) ∧ (win0_7.index t 0 = 0 ∧ win0_7.index t 1 = t.val)
    ∧ (win0_1.index t 0 = 0 ∧ win0_1.index t 1 = 0) ∧ (win0_2.index t 0 = 0 ∧ win0_2.index t 1 = 0) := by decide +kernel

/-- The head of a grid point. -/
abbrev hd (t : Fin cfg0.N) : Fin 8 := ⟨t.val, t.isLt⟩

/-- Column `d` of a head's block. -/
abbrev col (t : Fin cfg0.N) (d : Fin 128) : Fin 1024 := ⟨128 * t.val + d.val, by have : t.val < 8 := t.isLt; omega⟩

theorem col_grp (t : Fin cfg0.N) (d : Fin 128) : (⟨(col t d).val / 64 % 2, by omega⟩ : Fin 2) = ⟨d.val / 64, by omega⟩ :=
  Fin.ext (show (128 * t.val + d.val) / 64 % 2 = d.val / 64 by omega)
theorem col_head (t : Fin cfg0.N) (d : Fin 128) : (⟨(col t d).val / 128, by omega⟩ : Fin 8) = hd t :=
  Fin.ext (show (128 * t.val + d.val) / 128 = t.val by omega)
theorem col_lane (t : Fin cfg0.N) (d : Fin 128) : (⟨(col t d).val % 64, by omega⟩ : Fin 64) = ⟨d.val % 64, by omega⟩ :=
  Fin.ext (show (128 * t.val + d.val) % 64 = d.val % 64 by omega)
theorem col_lane' (t : Fin cfg0.N) (d : Fin 128) : (⟨(col t d).val % 128, by omega⟩ : Fin 128) = d :=
  Fin.ext (show (128 * t.val + d.val) % 128 = d.val by omega)

theorem iblk_q (c : Dev nD) (t : Fin cfg0.N) (r : Fin 16384) (d : Fin 128) : (iblk m c 0 t : Vec Ideal S16384x128 .bf16) (ix2 r d)
    = a0 m c (ix5 0 r ⟨d.val / 64, by omega⟩ (hd t) ⟨d.val % 64, by omega⟩) * ((1 / 8 / Real.log 2 : ℝ) : EReal) := by
  obtain ⟨⟨h0, h1⟩, -⟩ := head_index t
  unfold iblk
  rw [View.read_apply]
  refine Eq.trans (congrArg (V m c main_v17 : Vec Ideal S16384x1024 .bf16) (show _ = ix2 r (col t d) from ?_)) ?_
  · funext a; apply Fin.ext
    match a with
    | ⟨0, _⟩ => show win0_0.index t 0 * 16384 + 1 * r.val = r.val; rw [h0]; omega
    | ⟨1, _⟩ => show win0_0.index t 1 * 128 + 1 * d.val = 128 * t.val + d.val; rw [h1]; omega
  · rw [V_q, Cert.Attn.lit_scale, col_grp, col_head, col_lane]

theorem iblk_kl (c : Dev nD) (t : Fin cfg0.N) (r : Fin 16384) (d : Fin 128) : (iblk m c 3 t : Vec Ideal S16384x128 .bf16) (ix2 r d)
    = a1 m c (ix5 0 r ⟨d.val / 64, by omega⟩ (hd t) ⟨d.val % 64, by omega⟩) := by
  obtain ⟨-, ⟨h0, h1⟩, -⟩ := head_index t
  unfold iblk
  rw [View.read_apply]
  refine Eq.trans (congrArg (V m c main_v21 : Vec Ideal S16384x1024 .bf16) (show _ = ix2 r (col t d) from ?_)) ?_
  · funext a; apply Fin.ext
    match a with
    | ⟨0, _⟩ => show win0_3.index t 0 * 16384 + 1 * r.val = r.val; rw [h0]; omega
    | ⟨1, _⟩ => show win0_3.index t 1 * 128 + 1 * d.val = 128 * t.val + d.val; rw [h1]; omega
  · rw [V_kl, col_grp, col_head, col_lane]

theorem iblk_vl (c : Dev nD) (t : Fin cfg0.N) (r : Fin 16384) (d : Fin 128) : (iblk m c 4 t : Vec Ideal S16384x128 .bf16) (ix2 r d)
    = a2 m c (ix4 0 r (hd t) d) := by
  obtain ⟨-, -, ⟨h0, h1⟩, -⟩ := head_index t
  unfold iblk
  rw [View.read_apply]
  refine Eq.trans (congrArg (V m c main_v27 : Vec Ideal S16384x1024 .bf16) (show _ = ix2 r (col t d) from ?_)) ?_
  · funext a; apply Fin.ext
    match a with
    | ⟨0, _⟩ => show win0_4.index t 0 * 16384 + 1 * r.val = r.val; rw [h0]; omega
    | ⟨1, _⟩ => show win0_4.index t 1 * 128 + 1 * d.val = 128 * t.val + d.val; rw [h1]; omega
  · rw [V_vl, col_head, col_lane']

theorem iblk_kc (c : Dev nD) (t : Fin cfg0.N) (r : Fin 256) (d : Fin 128) : (iblk m c 5 t : Vec Ideal S256x128 .bf16) (ix2 r d)
    = a3 m c (ix5 0 r ⟨d.val / 64, by omega⟩ (hd t) ⟨d.val % 64, by omega⟩) := by
  obtain ⟨-, -, -, ⟨h0, h1⟩, -⟩ := head_index t
  unfold iblk
  rw [View.read_apply]
  refine Eq.trans (congrArg (V m c main_v25 : Vec Ideal S256x1024 .bf16) (show _ = ix2 r (col t d) from ?_)) ?_
  · funext a; apply Fin.ext
    match a with
    | ⟨0, _⟩ => show win0_5.index t 0 * 256 + 1 * r.val = r.val; rw [h0]; omega
    | ⟨1, _⟩ => show win0_5.index t 1 * 128 + 1 * d.val = 128 * t.val + d.val; rw [h1]; omega
  · rw [V_kc, col_grp, col_head, col_lane]

theorem iblk_vc (c : Dev nD) (t : Fin cfg0.N) (r : Fin 256) (d : Fin 128) : (iblk m c 6 t : Vec Ideal S256x128 .bf16) (ix2 r d)
    = a4 m c (ix4 0 r (hd t) d) := by
  obtain ⟨-, -, -, -, ⟨h0, h1⟩, -⟩ := head_index t
  unfold iblk
  rw [View.read_apply]
  refine Eq.trans (congrArg (V m c main_v29 : Vec Ideal S256x1024 .bf16) (show _ = ix2 r (col t d) from ?_)) ?_
  · funext a; apply Fin.ext
    match a with
    | ⟨0, _⟩ => show win0_6.index t 0 * 256 + 1 * r.val = r.val; rw [h0]; omega
    | ⟨1, _⟩ => show win0_6.index t 1 * 128 + 1 * d.val = 128 * t.val + d.val; rw [h1]; omega
  · rw [V_vc, col_head, col_lane']

theorem iblk_gain (c : Dev nD) (t : Fin cfg0.N) (e : Fin 128) : (iblk m c 2 t : Vec Ideal S1x128 .f32) (ix2 0 e) = a9 m c (ix1 e) := by
  obtain ⟨-, -, -, -, -, -, -, ⟨h0, h1⟩⟩ := head_index t
  unfold iblk
  rw [View.read_apply]
  refine Eq.trans (congrArg (V m c main_v30 : Vec Ideal S1x128 .f32) (show _ = ix2 0 e from ?_)) (V_gain m c e)
  funext a; apply Fin.ext
  match a with
  | ⟨0, _⟩ => show win0_2.index t 0 * 1 + 1 * 0 = 0; rw [h0]
  | ⟨1, _⟩ => show win0_2.index t 1 * 128 + 1 * e.val = e.val; rw [h1]; omega

theorem iblk_lam (c : Dev nD) (t : Fin cfg0.N) (r : Fin 8) (k : Fin 128) :
    (iblk m c 1 t : Vec Ideal S8x128 .f32) (ix2 r k) = (V m c main_v9 : Vec Ideal S8x128 .f32) (ix2 r k) := by
  obtain ⟨-, -, -, -, -, -, ⟨h0, h1⟩, -⟩ := head_index t
  unfold iblk
  rw [View.read_apply]
  refine congrArg (V m c main_v9 : Vec Ideal S8x128 .f32) ?_
  funext a; apply Fin.ext
  match a with
  | ⟨0, _⟩ => show win0_1.index t 0 * 8 + 1 * r.val = r.val; rw [h0]; omega
  | ⟨1, _⟩ => show win0_1.index t 1 * 128 + 1 * k.val = k.val; rw [h1]; omega

/-- The coefficient of the rows of one block. -/
theorem lam_of (X : FVec Ideal S8x128 .f32) (x5 x6 x7 x8 : FVec Ideal S64 .f32)
    (hr : ∀ (r : Fin 4) (k : Fin 128), X (ix2 ⟨r.val, by omega⟩ k) = if h : k.val < 64 then vecs x5 x6 x7 x8 (ix2 r ⟨k, h⟩) else (0 : EReal)) :
    (k0_pay175 (F := Ideal) X : FVec Ideal S1x1 .f32) (ix2 0 0) = coefE x5 x6 x7 x8 := by
  have hv := vecs_at x5 x6 x7 x8
  have e (r s : Fin 4) : ∑ k : Fin 128, (X (ix2 ⟨r.val, by omega⟩ k) * X (ix2 ⟨s.val, by omega⟩ k) : EReal)
      = ∑ k : Fin 64, (vecs x5 x6 x7 x8 (ix2 r k) * vecs x5 x6 x7 x8 (ix2 s k) : EReal) := by
    rw [sum_low]
    · refine Finset.sum_congr rfl fun k _ => ?_
      rw [hr, hr, dif_pos (show k.val < 64 from k.isLt), dif_pos (show k.val < 64 from k.isLt)]
    · intro k hk
      rw [hr, dif_neg (by omega), zero_mul]
  rw [lam_at]
  unfold coefE Cert.Attn.coef
  refine congrArg (fun z : EReal => z + Ideal.ofBits .f32 0x3E4CCCCD#32) (congrArg₂ (fun a b : EReal => a - b) (congrArg Ideal.exp ?_) (congrArg Ideal.exp ?_))
  · refine (e 0 1).trans (Finset.sum_congr rfl fun k _ => ?_)
    rw [(hv k).1, (hv k).2.1]
  · refine (e 2 3).trans (Finset.sum_congr rfl fun k _ => ?_)
    rw [(hv k).2.2.1, (hv k).2.2.2]

/-- The coefficient a head computes. -/
theorem lam_eq (c : Dev nD) (t : Fin cfg0.N) : (k0_pay175 (F := Ideal) (iblk m c 1 t) : FVec Ideal S1x1 .f32) (ix2 0 0)
    = coefE (a5 m c) (a6 m c) (a7 m c) (a8 m c) :=
  lam_of (iblk m c 1 t : Vec Ideal S8x128 .f32) _ _ _ _ fun r k => (iblk_lam m c t _ k).trans (lam_rows m c r k)

/-! ## A head's block -/

/-- The queries of a head in the lanes of its block. -/
def queryR (x0 : FVec Ideal S1x16384x2x8x64 .f32) (h : Fin 8) (r : Fin 16384) (d : Fin 128) : ℝ :=
  (x0 (ix5 0 r ⟨d.val / 64, by omega⟩ h ⟨d.val % 64, by omega⟩) : EReal).toReal * (1 / 8 / Real.log 2)

theorem raw_eq (x0 x1 : FVec Ideal S1x16384x2x8x64 .f32) (x3 : FVec Ideal S1x256x2x8x64 .f32) (h : Fin 8) (g : Fin 2) (r : Fin 16384) (k : Fin 16640) :
    Real.log 2 * raw (queryR x0 h) (fun k d => keyR x1 x3 h ⟨d.val / 64, by omega⟩ ⟨d.val % 64, by omega⟩ k) g r k = scoreR x0 x1 x3 r h g k := by
  have hl : Real.log 2 ≠ 0 := ne_of_gt (Real.log_pos (by norm_num))
  unfold raw scoreR
  rw [Finset.mul_sum, Finset.sum_mul]
  refine Finset.sum_congr rfl fun d _ => ?_
  have e0 : (⟨(64 * g.val + d.val) / 64, by omega⟩ : Fin 2) = g := Fin.ext (show (64 * g.val + d.val) / 64 = g.val by omega)
  have e1 : (⟨(64 * g.val + d.val) % 64, by omega⟩ : Fin 64) = d := Fin.ext (show (64 * g.val + d.val) % 64 = d.val by omega)
  unfold queryR
  dsimp only
  rw [e0, e1]
  field_simp

theorem kG_at (X4 : FVec Ideal S16384x128 .bf16) (X6 : FVec Ideal S256x128 .bf16) (k : Fin 16640) (d : Fin 128) :
    kG (F := Ideal) X4 X6 (ix2 k d) = Cert.Attn.joined (fun k => (X4 (ix2 k d) : EReal)) (fun k => (X6 (ix2 k d) : EReal)) k := rfl

theorem vG_at (X5 : FVec Ideal S16384x128 .bf16) (X7 : FVec Ideal S256x128 .bf16) (k : Fin 16640) (e : Fin 128) :
    vG (F := Ideal) X5 X7 (ix2 ⟨e.val, by omega⟩ k) = Cert.Attn.joined (fun k => (X5 (ix2 k e) : EReal)) (fun k => (X7 (ix2 k e) : EReal)) k := by
  unfold vG
  rw [dif_pos (show ((ix2 (⟨e.val, by omega⟩ : Fin 144) k) 0).val < 128 from e.isLt)]
  rfl

/-- The result in the columns of a head. -/
theorem outE_col (x0 x1 : FVec Ideal S1x16384x2x8x64 .f32) (x2 : FVec Ideal S1x16384x8x128 .f32) (x3 : FVec Ideal S1x256x2x8x64 .f32)
    (x4 : FVec Ideal S1x256x8x128 .f32) (x5 x6 x7 x8 : FVec Ideal S64 .f32) (x9 : FVec Ideal S128 .f32) (r : Fin 16384) (t : Fin cfg0.N) (e : Fin 128) :
    outE x0 x1 x2 x3 x4 x5 x6 x7 x8 x9 r (col t e) = Cert.Attn.normal (headE x0 x1 x2 x3 x4 x5 x6 x7 x8 r (hd t)) (fun e => x9 (ix1 e)) e := by
  unfold outE
  rw [col_head, col_lane']

variable (c : Dev nD) (h0 : Finite (a0 m c)) (h1 : Finite (a1 m c)) (h2 : Finite (a2 m c)) (h3 : Finite (a3 m c)) (h4 : Finite (a4 m c))

include h0 h1 h2 h3 h4

theorem block_at (t : Fin cfg0.N) (r : Fin 16384) (e : Fin 128) :
    (outG (F := Ideal) (iblk m c 0 t) (iblk m c 1 t) (iblk m c 2 t) (iblk m c 3 t) (iblk m c 4 t) (iblk m c 5 t) (iblk m c 6 t) : Vec Ideal S16384x128 .bf16) (ix2 r e)
      = Cert.Attn.normal (headE (a0 m c) (a1 m c) (a2 m c) (a3 m c) (a4 m c) (a5 m c) (a6 m c) (a7 m c) (a8 m c) r (hd t)) (fun e => a9 m c (ix1 e)) e := by
  have hQ : ∀ r d, (iblk m c 0 t : Vec Ideal S16384x128 .bf16) (ix2 r d) = (queryR (a0 m c) (hd t) r d : EReal) := fun r d => by
    rw [iblk_q, h0]
    exact (EReal.coe_mul _ _).symm
  have hK : ∀ k d, kG (F := Ideal) (iblk m c 3 t : Vec Ideal S16384x128 .bf16) (iblk m c 5 t : Vec Ideal S256x128 .bf16) (ix2 k d)
      = (keyR (a1 m c) (a3 m c) (hd t) ⟨d.val / 64, by omega⟩ ⟨d.val % 64, by omega⟩ k : EReal) := fun k d => by
    rw [← Cert.Attn.key_coe (a1 m c) (a3 m c) h1 h3, kG_at]
    simp only [iblk_kl, iblk_kc]
  have hW : ∀ k (e : Fin 128), vG (F := Ideal) (iblk m c 4 t : Vec Ideal S16384x128 .bf16) (iblk m c 6 t : Vec Ideal S256x128 .bf16) (ix2 ⟨e.val, by omega⟩ k)
      = (valR (a2 m c) (a4 m c) (hd t) e k : EReal) := fun k e => by
    rw [← Cert.Attn.val_coe (a2 m c) (a4 m c) h2 h4, vG_at]
    simp only [iblk_vl, iblk_vc]
  rw [head_at _ _ _ _ _ (queryR (a0 m c) (hd t)) (fun k d => keyR (a1 m c) (a3 m c) (hd t) ⟨d.val / 64, by omega⟩ ⟨d.val % 64, by omega⟩ k)
    (fun k e => valR (a2 m c) (a4 m c) (hd t) e k) _ _ hQ hK hW _ (lam_eq m c t) r e]
  simp only [raw_eq, iblk_gain]
  rfl

omit h0 h1 h2 h3 h4

/-! ## The result -/

/-- The differential attention of the argument arrays. -/
def result (c : Dev nD) : Vec Ideal S16384x1024 .bf16 := fun i =>
  outE (a0 m c) (a1 m c) (a2 m c) (a3 m c) (a4 m c) (a5 m c) (a6 m c) (a7 m c) (a8 m c) (a9 m c) (i 0) (i 1)

include h0 h1 h2 h3 h4

/-- Every block the pipeline writes back is the result's. -/
theorem flushed_eq (t : Fin cfg0.N) :
    (dats m 0 c).flushed 7 t = (win0_7.blk t).view.read (Elt Ideal) (result m c) := by
  show (cfg0.win 7).cut (grid0.coords t) ((dats m 0 c).after 7 t) = _
  rw [after_7]
  funext y
  obtain ⟨-, -, -, -, -, ⟨i0, i1⟩, -⟩ := head_index t
  obtain ⟨r, e, rfl⟩ : ∃ (r : Fin 16384) (e : Fin 128), y = ix2 r e :=
    ⟨y 0, y 1, funext fun a => match a with | ⟨0, _⟩ => rfl | ⟨1, _⟩ => rfl⟩
  refine (block_at m c h0 h1 h2 h3 h4 t r e).trans ?_
  rw [View.read_apply]
  refine Eq.trans ?_ (congrArg (result m c) (show ix2 r (col t e) = _ from ?_))
  · exact (outE_col _ _ _ _ _ _ _ _ _ _ r t e).symm
  · funext a; apply Fin.ext
    match a with
    | ⟨0, _⟩ => show r.val = win0_7.index t 0 * 16384 + 1 * r.val; rw [i0]; omega
    | ⟨1, _⟩ => show 128 * t.val + e.val = win0_7.index t 1 * 128 + 1 * e.val; rw [i1]; omega

omit h0 h1 h2 h3 h4

/-- Every index of the result is in the block of its head. -/
theorem mem_blk (t : Fin cfg0.N) (i : S16384x1024.Idx) (h : 128 * t.val ≤ (i 1).val ∧ (i 1).val < 128 * t.val + 128) :
    i ∈ ((cfg0.win 7).blk t).view.set := by
  show i ∈ ((View.whole main_v31).slice (win0_7.rect t)).set
  rw [View.set_slice_whole, Rect.mem_set_unit]
  have hi : (i 0 : Nat) < 16384 := (i 0).isLt
  obtain ⟨-, -, -, -, -, ⟨i0, i1⟩, -⟩ := head_index t
  intro a
  match a with
  | ⟨0, _⟩ =>
    show win0_7.index t 0 * 16384 ≤ (i 0 : Nat) ∧ (i 0 : Nat) < win0_7.index t 0 * 16384 + 16384
    rw [i0, Nat.zero_mul, Nat.zero_add]
    exact ⟨Nat.zero_le _, hi⟩
  | ⟨1, _⟩ =>
    show win0_7.index t 1 * 128 ≤ (i 1 : Nat) ∧ (i 1 : Nat) < win0_7.index t 1 * 128 + 128
    rw [i1]; omega

include h0 h1 h2 h3 h4

theorem final : (dats m 0 c).arrAt 7 cfg0.N = result m c :=
  (dats m 0 c).arrAt_eq_of_cover 7 _ (fun t _ => flushed_eq m c h0 h1 h2 h3 h4 t) fun i =>
    let hi : (i 1 : Nat) < 1024 := (i 1).isLt
    let t : Fin cfg0.N := ⟨(i 1 : Nat) / 128, by show _ < 8; omega⟩
    ⟨t, flush0_7 t, mem_blk t i (by show 128 * ((i 1 : Nat) / 128) ≤ _ ∧ _ < 128 * ((i 1 : Nat) / 128) + 128; omega)⟩

end Cert.KernelIdeal.Attn

end
-- ==== Proof.AttnRef.lean ====
/- The attention reference's result read at an index. -/
module

public import proofs.«01_k».proof.Proof.Gen.ReferenceIdeal.Run
public import proofs.«01_k».proof.Proof.AttnFormula
public import Idealize.ShloMosaic.Lib.Tactic
public import Idealize.ShloMosaic.Lib.Tactic.CleanTypes

@[expose] public section

noncomputable section

namespace Cert.ReferenceIdeal.Attn

open Cert.ReferenceIdeal Cert.ReferenceIdeal.Gen Idealize.ShloMosaic Idealize.ShloMosaic.TcCoe

/-! ## The stages -/

/-- The keys of both arrays. -/
def keys (x1 : FVec Ideal S1x16384x2x8x64 .f32) (x3 : FVec Ideal S1x256x2x8x64 .f32) : FVec Ideal S1x16640x2x8x64 .f32 :=
  concatenate S1x16640x2x8x64 1 [⟨S1x16384x2x8x64, x1⟩, ⟨S1x256x2x8x64, x3⟩] concatenates_S1x16384x2x8x64_S1x256x2x8x64_S1x16640x2x8x64_d1

/-- The scores. -/
def scores (x0 : FVec Ideal S1x16384x2x8x64 .f32) (k : FVec Ideal S1x16640x2x8x64 .f32) : FVec Ideal S1x2x8x16384x16640 .f32 :=
  mulf (Host.dotGeneral dot_S1x16384x2x8x64_S1x16640x2x8x64_S1x2x8x16384x16640_4_4_1_1_023_023 none x0 k)
    (broadcastInDim S1x2x8x16384x16640 ![] bcast_S_S1x2x8x16384x16640 (constant S_ .f32 0x3E000000#32))

/-- The largest score of every row. -/
def tops (s : FVec Ideal S1x2x8x16384x16640 .f32) : FVec Ideal S1x2x8x16384 .f32 :=
  maximumf (broadcastInDim S1x2x8x16384 ![] bcast_S_S1x2x8x16384 (constant S_ .f32 0xFF800000#32))
    (Host.reduce FloatOps.maximumf s (constant S_ .f32 0xFF800000#32) reducesTo_S1x2x8x16384x16640_S1x2x8x16384_d4 h_S_)

/-- A row's number at every key. -/
def spread (x : FVec Ideal S1x2x8x16384 .f32) : FVec Ideal S1x2x8x16384x16640 .f32 :=
  broadcastInDim S1x2x8x16384x16640 ![0, 1, 2, 3, 4] bcast_S1x2x8x16384x1_S1x2x8x16384x16640_0_1_2_3_4
    (broadcastInDim S1x2x8x16384x1 ![0, 1, 2, 3] bcast_S1x2x8x16384_S1x2x8x16384x1_0_1_2_3 x)

/-- The exponentials. -/
def exps (s : FVec Ideal S1x2x8x16384x16640 .f32) : FVec Ideal S1x2x8x16384x16640 .f32 := Host.exp (subf s (spread (tops s)))

/-- Exponentials divided by their row's sum. -/
def weights (e : FVec Ideal S1x2x8x16384x16640 .f32) : FVec Ideal S1x2x8x16384x16640 .f32 :=
  Host.divf e (spread (Host.reduceAdd e (constant S_ .f32 0x00000000#32) reducesTo_S1x2x8x16384x16640_S1x2x8x16384_d4 h_S_))

/-- The coefficient. -/
def lam (x5 x6 x7 x8 : FVec Ideal S64 .f32) : FVec Ideal S_ .f32 :=
  addf (subf (Host.exp (Host.reduceAdd (mulf x5 x6) (constant S_ .f32 0x00000000#32) reducesTo_S64_S_d0 h_S_))
    (Host.exp (Host.reduceAdd (mulf x7 x8) (constant S_ .f32 0x00000000#32) reducesTo_S64_S_d0 h_S_))) (constant S_ .f32 0x3E4CCCCD#32)

/-- The difference of the two groups' weights. -/
def diffs (p : FVec Ideal S1x2x8x16384x16640 .f32) (l : FVec Ideal S_ .f32) : FVec Ideal S1x8x16384x16640 .f32 :=
  subf (shapeCast _ (extractStridedSlice S1x1x8x16384x16640 ![0, 0, 0, 0, 0] p slices_S1x2x8x16384x16640_S1x1x8x16384x16640_0_0_0_0_0)
      shapeCasts_S1x1x8x16384x16640_S1x8x16384x16640)
    (mulf (broadcastInDim S1x8x16384x16640 ![] bcast_S_S1x8x16384x16640 l)
      (shapeCast _ (extractStridedSlice S1x1x8x16384x16640 ![0, 1, 0, 0, 0] p slices_S1x2x8x16384x16640_S1x1x8x16384x16640_0_1_0_0_0)
        shapeCasts_S1x1x8x16384x16640_S1x8x16384x16640))

/-- The values averaged. -/
def outs (x2 : FVec Ideal S1x16384x8x128 .f32) (x4 : FVec Ideal S1x256x8x128 .f32) (d : FVec Ideal S1x8x16384x16640 .f32) :
    FVec Ideal S1x16384x8x128 .f32 :=
  transpose S1x16384x8x128 [0, 3, 1, 2]
    (Host.dotGeneral dot_S1x16640x8x128_S1x8x16384x16640_S1x8x128x16384_1_3_3_2_02_01 none
      (concatenate S1x16640x8x128 1 [⟨S1x16384x8x128, x2⟩, ⟨S1x256x8x128, x4⟩] concatenates_S1x16384x8x128_S1x256x8x128_S1x16640x8x128_d1) d)
    transposes_S1x8x128x16384_S1x16384x8x128_0_3_1_2

/-- The normalised result. -/
def result (o : FVec Ideal S1x16384x8x128 .f32) (x9 : FVec Ideal S128 .f32) : FVec Ideal S16384x1024 .bf16 :=
  truncf .bf16 (shapeCast _ (mulf (mulf (mulf o (broadcastInDim S1x16384x8x128 ![0, 1, 2, 3] bcast_S1x16384x8x1_S1x16384x8x128_0_1_2_3
    (Host.rsqrt (addf (Host.divf (broadcastInDim S1x16384x8x1 ![0, 1, 2] bcast_S1x16384x8_S1x16384x8x1_0_1_2
      (Host.reduceAdd (mulf o o) (constant S_ .f32 0x00000000#32) reducesTo_S1x16384x8x128_S1x16384x8_d3 h_S_))
      (broadcastInDim S1x16384x8x1 ![] bcast_S_S1x16384x8x1 (constant S_ .f32 0x43000000#32)))
      (broadcastInDim S1x16384x8x1 ![] bcast_S_S1x16384x8x1 (constant S_ .f32 0x358637BD#32))))))
    (broadcastInDim S1x16384x8x128 ![0, 1, 2, 3] bcast_S1x1x1x128_S1x16384x8x128_0_1_2_3
      (broadcastInDim S1x1x1x128 ![3] bcast_S128_S1x1x1x128_3 x9)))
    (broadcastInDim S1x16384x8x128 ![] bcast_S_S1x16384x8x128 (constant S_ .f32 0x3F4CCCCD#32))) shapeCasts_S1x16384x8x128_S16384x1024) bitsLt_bf16_f32

/-! ## The stages at an index -/

theorem keys_at (x1 : FVec Ideal S1x16384x2x8x64 .f32) (x3 : FVec Ideal S1x256x2x8x64 .f32) (g : Fin 2) (h : Fin 8) (k : Fin 16640) (d : Fin 64) :
    keys x1 x3 (ix5 0 k g h d) = Cert.Attn.joined (fun k => x1 (ix5 0 k g h d)) (fun k => x3 (ix5 0 k g h d)) k := by
  unfold Cert.Attn.joined
  pointwise [keys]

theorem scores_at (x0 : FVec Ideal S1x16384x2x8x64 .f32) (x : FVec Ideal S1x16640x2x8x64 .f32) (g : Fin 2) (h : Fin 8) (r : Fin 16384)
    (k : Fin 16640) : scores x0 x (ix5 0 g h r k) = Cert.Attn.score (fun d => x0 (ix5 0 r g h d)) (fun d => x (ix5 0 k g h d)) := by
  unfold Cert.Attn.score
  pointwise [scores]

theorem max_at {s : Shape} (x y : FVec Ideal s .f32) (j : s.Idx) : maximumf x y j = max (x j) (y j) := rfl

theorem tops_eq (s : FVec Ideal S1x2x8x16384x16640 .f32) (j : S1x2x8x16384.Idx) (M : EReal)
    (h : Host.reduce (FloatOps.maximumf : Ideal .f32 → Ideal .f32 → Ideal .f32) s (constant S_ .f32 0xFF800000#32 : FVec Ideal S_ .f32)
      reducesTo_S1x2x8x16384x16640_S1x2x8x16384_d4 h_S_ j = M) : tops s j = M := by
  unfold tops
  rw [max_at, h]
  exact max_eq_right (le_of_eq_of_le Cert.Attn.lit_bot bot_le)

theorem drop_key (g : Fin 2) (h : Fin 8) (r : Fin 16384) :
    reducesTo_S1x2x8x16384x16640_S1x2x8x16384_d4.drop (ix5 0 g h r 0) = ix4 0 g h r := funext fun a => match a with
  | ⟨0, _⟩ => rfl
  | ⟨1, _⟩ => rfl
  | ⟨2, _⟩ => rfl
  | ⟨3, _⟩ => rfl

theorem reduce_at (s : FVec Ideal S1x2x8x16384x16640 .f32) (S : S1x2x8x16384x16640.Idx → ℝ) (hs : ∀ i, s i = (S i : EReal))
    (j : S1x2x8x16384.Idx) (i : S1x2x8x16384x16640.Idx) (hd : reducesTo_S1x2x8x16384x16640_S1x2x8x16384_d4.drop i = j) :
    ∃ M : ℝ, Host.reduce (FloatOps.maximumf : Ideal .f32 → Ideal .f32 → Ideal .f32) s (constant S_ .f32 0xFF800000#32 : FVec Ideal S_ .f32)
      reducesTo_S1x2x8x16384x16640_S1x2x8x16384_d4 h_S_ j = (M : EReal) :=
  Cert.Attn.reduce_real (s := S1x2x8x16384x16640) (t := S1x2x8x16384) (u := S_) s S hs (constant S_ .f32 0xFF800000#32 : FVec Ideal S_ .f32)
    (fun _ => Cert.Attn.lit_bot) reducesTo_S1x2x8x16384x16640_S1x2x8x16384_d4 h_S_ j i hd

/-- The largest of real scores is real. -/
theorem tops_real (s : FVec Ideal S1x2x8x16384x16640 .f32) (S : S1x2x8x16384x16640.Idx → ℝ) (hs : ∀ i, s i = (S i : EReal))
    (g : Fin 2) (h : Fin 8) (r : Fin 16384) : ∃ M : ℝ, tops s (ix4 0 g h r) = (M : EReal) := by
  obtain ⟨M, hM⟩ := reduce_at s S hs (ix4 0 g h r) (ix5 0 g h r 0) (drop_key g h r)
  exact ⟨M, tops_eq s _ _ hM⟩

theorem exps_at (s : FVec Ideal S1x2x8x16384x16640 .f32) (g : Fin 2) (h : Fin 8) (r : Fin 16384) (k : Fin 16640) :
    exps s (ix5 0 g h r k) = Ideal.exp (s (ix5 0 g h r k) - tops s (ix4 0 g h r)) := by
  pointwise [exps, spread]

theorem weights_at (e : FVec Ideal S1x2x8x16384x16640 .f32) (g : Fin 2) (h : Fin 8) (r : Fin 16384) (k : Fin 16640) :
    weights e (ix5 0 g h r k) = Ideal.div (e (ix5 0 g h r k)) (∑ k : Fin 16640, e (ix5 0 g h r k)) := by
  pointwise [weights, spread]

theorem lam_at (x5 x6 x7 x8 : FVec Ideal S64 .f32) (i : S_.Idx) : lam x5 x6 x7 x8 i =
    Cert.Attn.coef (fun k => x5 (ix1 k)) (fun k => x6 (ix1 k)) (fun k => x7 (ix1 k)) (fun k => x8 (ix1 k)) := by
  pointwise [lam]
  rfl

theorem diffs_at (p : FVec Ideal S1x2x8x16384x16640 .f32) (l : FVec Ideal S_ .f32) (h : Fin 8) (r : Fin 16384) (k : Fin 16640) :
    diffs p l (ix4 0 h r k) = p (ix5 0 0 h r k) - l ix0 * p (ix5 0 1 h r k) := by
  pointwise [diffs]

theorem outs_at (x2 : FVec Ideal S1x16384x8x128 .f32) (x4 : FVec Ideal S1x256x8x128 .f32) (d : FVec Ideal S1x8x16384x16640 .f32)
    (r : Fin 16384) (h : Fin 8) (e : Fin 128) : outs x2 x4 d (ix4 0 r h e)
      = (∑ k : Fin 16384, x2 (ix4 0 k h e) * d (ix4 0 h r ⟨k, by omega⟩)) + ∑ k : Fin 256, x4 (ix4 0 k h e) * d (ix4 0 h r ⟨16384 + k, by omega⟩) := by
  pointwise [outs]

theorem result_at (o : FVec Ideal S1x16384x8x128 .f32) (x9 : FVec Ideal S128 .f32) (r : Fin 16384) (j : Fin 1024) :
    result o x9 (ix2 r j) = Cert.Attn.normal (fun e => o (ix4 0 r ⟨j / 128, by omega⟩ e)) (fun e => x9 (ix1 e)) ⟨j % 128, Nat.mod_lt _ (by omega)⟩ := by
  pointwise [result]
  rfl

/-- The result in stages. -/
theorem res_stages (m : (ℓ : Loc nD τ sig) → Buf (Elt Ideal) ℓ) (c : Dev nD) (x0 : Vec Ideal S1x16384x2x8x64 .f32)
    (x1 : Vec Ideal S1x16384x2x8x64 .f32) (x2 : Vec Ideal S1x16384x8x128 .f32) (x3 : Vec Ideal S1x256x2x8x64 .f32)
    (x4 : Vec Ideal S1x256x8x128 .f32) (x5 x6 x7 x8 : Vec Ideal S64 .f32) (x9 : Vec Ideal S128 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5)
    (h6 : m ((c.tc : Thread nD τ).loc main_arg6) = x6) (h7 : m ((c.tc : Thread nD τ).loc main_arg7) = x7)
    (h8 : m ((c.tc : Thread nD τ).loc main_arg8) = x8) (h9 : m ((c.tc : Thread nD τ).loc main_arg9) = x9) :
    (Value.res_main_v49 m c : Vec Ideal S16384x1024 .bf16)
      = result (outs x2 x4 (diffs (weights (exps (scores x0 (keys x1 x3)))) (lam x5 x6 x7 x8))) x9 := by
  unfold Value.res_main_v49
  rw [h0, h1, h2, h3, h4, h5, h6, h7, h8, h9]
  unfold result outs diffs lam weights exps spread tops scores keys
  rfl

set_option maxHeartbeats 1000000 in
/-- The stages together, at an index. -/
theorem stages_at (x0 x1 : FVec Ideal S1x16384x2x8x64 .f32) (x2 : FVec Ideal S1x16384x8x128 .f32) (x3 : FVec Ideal S1x256x2x8x64 .f32)
    (x4 : FVec Ideal S1x256x8x128 .f32) (x5 x6 x7 x8 : FVec Ideal S64 .f32) (x9 : FVec Ideal S128 .f32) (r : Fin 16384) (j : Fin 1024) :
    result (outs x2 x4 (diffs (weights (exps (scores x0 (keys x1 x3)))) (lam x5 x6 x7 x8))) x9 (ix2 r j) =
      Cert.Attn.normal (fun e => Cert.Attn.mixed
          (Cert.Attn.coef (fun k => x5 (ix1 k)) (fun k => x6 (ix1 k)) (fun k => x7 (ix1 k)) (fun k => x8 (ix1 k)))
          (fun g k => Cert.Attn.score (fun d => x0 (ix5 0 r g ⟨j / 128, by omega⟩ d)) fun d =>
            Cert.Attn.joined (fun k => x1 (ix5 0 k g ⟨j / 128, by omega⟩ d)) (fun k => x3 (ix5 0 k g ⟨j / 128, by omega⟩ d)) k)
          (fun g => tops (scores x0 (keys x1 x3)) (ix4 0 g ⟨j / 128, by omega⟩ r))
          (Cert.Attn.joined (fun k => x2 (ix4 0 k ⟨j / 128, by omega⟩ e)) (fun k => x4 (ix4 0 k ⟨j / 128, by omega⟩ e))))
        (fun e => x9 (ix1 e)) ⟨j % 128, Nat.mod_lt _ (by omega)⟩ := by
  rw [result_at]
  refine congrArg (fun o => Cert.Attn.normal o (fun e => x9 (ix1 e)) ⟨j % 128, Nat.mod_lt _ (by omega)⟩) (funext fun e => ?_)
  rw [outs_at, Cert.Attn.sum_joined (fun k => x2 (ix4 0 k ⟨j / 128, by omega⟩ e)) (fun k => x4 (ix4 0 k ⟨j / 128, by omega⟩ e))
    (fun k => diffs (weights (exps (scores x0 (keys x1 x3)))) (lam x5 x6 x7 x8) (ix4 0 ⟨j / 128, by omega⟩ r k))]
  unfold Cert.Attn.mixed Cert.Attn.weight
  simp only [diffs_at, weights_at, exps_at, scores_at, keys_at, lam_at]

end Cert.ReferenceIdeal.Attn

end
-- ==== Proof.AttnReal.lean ====
/- The reference's result for real arrays. -/
module

public import proofs.«01_k».proof.Proof.AttnRef
public import proofs.«01_k».proof.Proof.AttnRow

@[expose] public section

noncomputable section

namespace Cert.ReferenceIdeal.Attn

open Cert.ReferenceIdeal Cert.ReferenceIdeal.Gen Idealize.ShloMosaic Idealize.ShloMosaic.TcCoe Idealize.SL.Sem
open Cert.Attn (Finite scoreR valR coefE headE outE)

variable (x0 x1 : FVec Ideal S1x16384x2x8x64 .f32) (x2 : FVec Ideal S1x16384x8x128 .f32) (x3 : FVec Ideal S1x256x2x8x64 .f32)
  (x4 : FVec Ideal S1x256x8x128 .f32) (x5 x6 x7 x8 : FVec Ideal S64 .f32) (x9 : FVec Ideal S128 .f32)
  (h0 : Finite x0) (h1 : Finite x1) (h2 : Finite x2) (h3 : Finite x3) (h4 : Finite x4) (h5 : Finite x5) (h6 : Finite x6) (h7 : Finite x7) (h8 : Finite x8)

include h0 h1 h3 in
/-- Every score is real, so each row has a real greatest score. -/
theorem tops_coe (g : Fin 2) (h : Fin 8) (r : Fin 16384) : ∃ M : ℝ, tops (scores x0 (keys x1 x3)) (ix4 0 g h r) = (M : EReal) := by
  refine tops_real _ (fun i => scoreR x0 x1 x3 (i 3) (i 2) (i 1) (i 4)) (fun i => ?_) g h r
  obtain ⟨g, h, r, k, rfl⟩ : ∃ (g : Fin 2) (h : Fin 8) (r : Fin 16384) (k : Fin 16640), i = ix5 0 g h r k :=
    ⟨i 1, i 2, i 3, i 4, funext fun a => match a with
      | ⟨0, _⟩ => Subsingleton.elim (α := Fin 1) _ _ | ⟨1, _⟩ => rfl | ⟨2, _⟩ => rfl | ⟨3, _⟩ => rfl | ⟨4, _⟩ => rfl⟩
  rw [scores_at]
  simp only [keys_at]
  exact Cert.Attn.score_coe x0 x1 x3 h0 h1 h3 r h g k

include h0 h1 h2 h3 h4 h5 h6 h7 h8 in
/-- The reference's result at a row and a column. -/
theorem result_real (r : Fin 16384) (j : Fin 1024) :
    result (outs x2 x4 (diffs (weights (exps (scores x0 (keys x1 x3)))) (lam x5 x6 x7 x8))) x9 (ix2 r j) = outE x0 x1 x2 x3 x4 x5 x6 x7 x8 x9 r j := by
  obtain ⟨l, hl⟩ := Cert.Attn.coef_real (fun k => x5 (ix1 k)) (fun k => x6 (ix1 k)) (fun k => x7 (ix1 k)) (fun k => x8 (ix1 k))
    (fun k => h5 _) (fun k => h6 _) (fun k => h7 _) (fun k => h8 _)
  obtain ⟨M, hM⟩ := Classical.axiomOfChoice fun g : Fin 2 => tops_coe x0 x1 x3 h0 h1 h3 g ⟨j.val / 128, by omega⟩ r
  rw [stages_at]
  unfold outE
  refine congrArg (fun o => Cert.Attn.normal o (fun e => x9 (ix1 e)) _) (funext fun e => ?_)
  unfold headE coefE
  rw [hl, ← Cert.Attn.mixed_real l (fun g k => scoreR x0 x1 x3 r ⟨j.val / 128, by omega⟩ g k) M]
  have hs : (fun (g : Fin 2) (k : Fin 16640) => Cert.Attn.score (fun d => x0 (ix5 0 r g ⟨j.val / 128, by omega⟩ d)) fun d =>
      Cert.Attn.joined (fun k => x1 (ix5 0 k g ⟨j.val / 128, by omega⟩ d)) (fun k => x3 (ix5 0 k g ⟨j.val / 128, by omega⟩ d)) k)
      = fun g k => ((scoreR x0 x1 x3 r ⟨j.val / 128, by omega⟩ g k : ℝ) : EReal) :=
    funext fun g => funext fun k => Cert.Attn.score_coe x0 x1 x3 h0 h1 h3 r _ g k
  have hv : Cert.Attn.joined (fun k => x2 (ix4 0 k ⟨j.val / 128, by omega⟩ e)) (fun k => x4 (ix4 0 k ⟨j.val / 128, by omega⟩ e))
      = fun k => ((valR x2 x4 ⟨j.val / 128, by omega⟩ e k : ℝ) : EReal) :=
    funext fun k => Cert.Attn.val_coe x2 x4 h2 h4 _ e k
  rw [hs, hv, show (fun g => tops (scores x0 (keys x1 x3)) (ix4 0 g ⟨j.val / 128, by omega⟩ r)) = fun g => ((M g : ℝ) : EReal) from funext hM]

end Cert.ReferenceIdeal.Attn

end
-- ==== Proof.AttnPre.lean ====
/- What the precondition says of an array: every entry is a real number. -/
module

public import proofs.«01_k».proof.Pre_finite
public import proofs.«01_k».proof.Proof.AttnRow
public import Idealize.ShloMosaic.Lib.Pointwise

@[expose] public section

noncomputable section

namespace Cert.Attn

open Idealize.ShloMosaic

theorem pre_facts : Cert.Pre_finite.Facts where
  bcast_S_S1x16384x2x8x64 := by decide
  bcast_S_S1x16384x8x128 := by decide
  bcast_S_S1x256x2x8x64 := by decide
  bcast_S_S1x256x8x128 := by decide
  bcast_S_S64 := by decide

theorem lit_top : Ideal.ofBits .f32 0x7F800000#32 = (⊤ : EReal) := by
  simp [Ideal.ofBits, Ideal.ieee]

/-- A number whose magnitude is under infinity is real. -/
theorem real_of_lt (x : EReal) (h : Ideal.cmp .olt (max x (-x)) (Ideal.ofBits .f32 0x7F800000#32) = 1#1) : x = (x.toReal : EReal) := by
  rw [lit_top] at h
  have h' : max x (-x) < ⊤ := by
    by_contra hn
    simp [Ideal.cmp, hn] at h
  refine (EReal.coe_toReal (fun e => ?_) (fun e => ?_)).symm
  · rw [e] at h'; simp at h'
  · rw [e] at h'; simp at h'

/-- The comparison the precondition makes of one array. -/
theorem finite_of {s : Shape} (x : FVec Ideal s .f32) (hb : (⟨0, ![]⟩ : Shape).BroadcastsInDim s (![] : Fin 0 → Fin s.rank))
    (h : cmpf .olt (Host.absf x) (broadcastInDim s ![] hb (constant ⟨0, ![]⟩ .f32 0x7F800000#32)) = fun _ => 1#1) : Finite x :=
  fun i => real_of_lt (x i) (congrFun h i)

attribute [local instance] pre_facts in
theorem finite_fn (x0 x1 : FVec Ideal Cert.Pre_finite.S1x16384x2x8x64 .f32) (x2 : FVec Ideal Cert.Pre_finite.S1x16384x8x128 .f32)
    (x3 : FVec Ideal Cert.Pre_finite.S1x256x2x8x64 .f32) (x4 : FVec Ideal Cert.Pre_finite.S1x256x8x128 .f32)
    (x5 x6 x7 x8 : FVec Ideal Cert.Pre_finite.S64 .f32) (x9 : FVec Ideal Cert.Pre_finite.S128 .f32)
    (h0 : (Cert.Pre_finite.fn x0 x1 x2 x3 x4 x5 x6 x7 x8 x9).1 = fun _ => 1#1)
    (h1 : (Cert.Pre_finite.fn x0 x1 x2 x3 x4 x5 x6 x7 x8 x9).2.1 = fun _ => 1#1)
    (h2 : (Cert.Pre_finite.fn x0 x1 x2 x3 x4 x5 x6 x7 x8 x9).2.2.1 = fun _ => 1#1)
    (h3 : (Cert.Pre_finite.fn x0 x1 x2 x3 x4 x5 x6 x7 x8 x9).2.2.2.1 = fun _ => 1#1)
    (h4 : (Cert.Pre_finite.fn x0 x1 x2 x3 x4 x5 x6 x7 x8 x9).2.2.2.2.1 = fun _ => 1#1)
    (h5 : (Cert.Pre_finite.fn x0 x1 x2 x3 x4 x5 x6 x7 x8 x9).2.2.2.2.2.1 = fun _ => 1#1)
    (h6 : (Cert.Pre_finite.fn x0 x1 x2 x3 x4 x5 x6 x7 x8 x9).2.2.2.2.2.2.1 = fun _ => 1#1)
    (h7 : (Cert.Pre_finite.fn x0 x1 x2 x3 x4 x5 x6 x7 x8 x9).2.2.2.2.2.2.2.1 = fun _ => 1#1)
    (h8 : (Cert.Pre_finite.fn x0 x1 x2 x3 x4 x5 x6 x7 x8 x9).2.2.2.2.2.2.2.2 = fun _ => 1#1) :
    Finite x0 ∧ Finite x1 ∧ Finite x2 ∧ Finite x3 ∧ Finite x4 ∧ Finite x5 ∧ Finite x6 ∧ Finite x7 ∧ Finite x8 :=
  ⟨finite_of x0 _ h0, finite_of x1 _ h1, finite_of x2 _ h2, finite_of x3 _ h3, finite_of x4 _ h4, finite_of x5 _ h5, finite_of x6 _ h6,
    finite_of x7 _ h7, finite_of x8 _ h8⟩

end Cert.Attn

end
-- ==== Proof.AttnClaims.lean ====
/-
  The claims about the attention call: its frames, and the equation with its reference.
-/
module

public import proofs.«01_k».proof.Defs
public import proofs.«01_k».proof.Proof.AttnSame
public import proofs.«01_k».proof.Proof.Gen.ReferenceIdeal.Run
public import proofs.«01_k».proof.Proof.AttnValue
public import proofs.«01_k».proof.Proof.AttnReal
public import proofs.«01_k».proof.Proof.AttnPre
public import Idealize.ShloMosaic.Lib.Quiescent
public import Idealize.ShloMosaic.Lib.Claim

@[expose] public section

noncomputable section

namespace Cert.Attn

open Idealize.ShloMosaic Idealize.ShloMosaic.TcCoe Idealize.SL.Sem

theorem frame_kernelIdeal : Cert.quiescent_KernelIdeal := fun m ρ _ => Cert.KernelIdeal.Attn.frame m ρ

theorem frame_reference : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

attribute [local instance] pre_facts

theorem frame_kernelIdeal_pre : Cert.quiescent_KernelIdeal_pre_finite := fun m ρ _ => frame_kernelIdeal m ρ trivial

theorem frame_reference_pre : Cert.quiescent_ReferenceIdeal_pre_finite := fun m ρ _ => frame_reference m ρ trivial

open Cert.KernelIdeal.Attn in
/-- The precondition on one device: all the arrays but the gain are real. -/
theorem args_real (m : (ℓ : Loc Cert.KernelIdeal.nD Cert.KernelIdeal.τ Cert.KernelIdeal.sig) → Buf (Elt Ideal) ℓ)
    (h : Cert.Pre_KernelIdeal_finite m) (c : Dev Cert.KernelIdeal.nD) :
    Finite (a0 m c) ∧ Finite (a1 m c) ∧ Finite (a2 m c) ∧ Finite (a3 m c) ∧ Finite (a4 m c) ∧ Finite (a5 m c)
      ∧ Finite (a6 m c) ∧ Finite (a7 m c) ∧ Finite (a8 m c) := by
  obtain ⟨h0, h1, h2, h3, h4, h5, h6, h7, h8⟩ := h c
  exact finite_fn (a0 m c) (a1 m c) (a2 m c) (a3 m c) (a4 m c) (a5 m c) (a6 m c) (a7 m c) (a8 m c) (a9 m c) h0 h1 h2 h3 h4 h5 h6 h7 h8

/-- Both programs compute the differential attention of the arguments. -/
theorem algebraic : Cert.algebraic_KernelIdeal_ReferenceIdeal_pre_finite := by
  intro m ρ m' ρ' hpre hagree
  refine ⟨fun c => Cert.KernelIdeal.Attn.result m c, ?_, ?_⟩
  · refine (θ_run Cert.KernelIdeal.defs _ _).mono (fun _ h c => ⟨?_, h.2.1 c⟩)
      (θ_run_and (Cert.KernelIdeal.Attn.run_main m ρ) (Cert.KernelIdeal.Attn.frame m ρ))
    obtain ⟨h0, h1, h2, h3, h4, -⟩ := args_real m hpre c
    exact ((h.1 c).1 7).trans (Cert.KernelIdeal.Attn.final m c h0 h1 h2 h3 h4)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8, h9⟩ := hagree c
    obtain ⟨f0, f1, f2, f3, f4, f5, f6, f7, f8⟩ := args_real m hpre c
    refine (Cert.ReferenceIdeal.Attn.res_stages m' c _ _ _ _ _ _ _ _ _ _ h0 h1 h2 h3 h4 h5 h6 h7 h8 h9).trans ?_
    funext i
    obtain ⟨r, j, rfl⟩ : ∃ (r : Fin 16384) (j : Fin 1024), i = ix2 r j :=
      ⟨i 0, i 1, funext fun a => match a with | ⟨0, _⟩ => rfl | ⟨1, _⟩ => rfl⟩
    exact Cert.ReferenceIdeal.Attn.result_real _ _ _ _ _ _ _ _ _ _ f0 f1 f2 f3 f4 f5 f6 f7 f8 r j

end Cert.Attn

end
-- ==== Proof.FfnFormula.lean ====
/-
  The gated feed-forward layer over the extended reals, row by row: the formula in which both the kernel and the
  reference are read.
-/
module

public import Idealize.ShloMosaic.Lib.Pointwise

@[expose] public section

noncomputable section

namespace Cert.Ffn

open Idealize.ShloMosaic

/-- The root mean square normalisation of one row, its gain and modulation applied. -/
def normed (h gain sc sh : Fin 1024 → EReal) (k : Fin 1024) : EReal :=
  h k * Ideal.rsqrt (Ideal.div (∑ x, h x * h x) (Ideal.ofBits FTy.f32 0x44800000#32) + Ideal.ofBits FTy.f32 0x358637BD#32)
    * (gain k * (1 + sc k)) + sh k

/-- The gate projection at column `p`. -/
def gate (a : Fin 1024 → EReal) (w : Fin 1024 → Fin 5632 → EReal) (p : Fin 2816) : EReal :=
  ∑ k, a k * w k ⟨p, by omega⟩

/-- The up projection at column `p`. -/
def up (a : Fin 1024 → EReal) (w : Fin 1024 → Fin 5632 → EReal) (p : Fin 2816) : EReal :=
  ∑ k, a k * w k ⟨2816 + p, by omega⟩

/-- The gated activation: `silu (gate) * up`. -/
def act (a : Fin 1024 → EReal) (w : Fin 1024 → Fin 5632 → EReal) (p : Fin 2816) : EReal :=
  gate a w p * Ideal.div 1 (1 + Ideal.exp (-gate a w p)) * up a w p

/-- The layer's new row at column `j`. -/
def layer (h gain sc sh g : Fin 1024 → EReal) (w : Fin 1024 → Fin 5632 → EReal) (d : Fin 2816 → Fin 1024 → EReal)
    (j : Fin 1024) : EReal :=
  h j + g j * ∑ p, act (normed h gain sc sh) w p * d p j

/-- A sum over the hidden columns is the sum over the first 1536 and the sum over the other 1280. -/
theorem sum_chunks (f : Fin 2816 → EReal) :
    ∑ p, f p = (∑ p : Fin 1536, f ⟨p, by omega⟩) + ∑ p : Fin 1280, f ⟨1536 + p, by omega⟩ :=
  Fin.sum_univ_two_halves 1536 1280 rfl f

end Cert.Ffn

end
-- ==== Proof.FfnBlock.lean ====
/-
  What the feed-forward kernel computes for one group of 256 rows: the four groups of a tile are one function of the
  group's rows (`rowBlock`), and over the extended reals that function read at an index is the gated feed-forward
  formula (`rowBlock_apply`).
-/
module

public import proofs.«01_k».proof.Proof.Gen.Kernel2Ideal.Value
public import proofs.«01_k».proof.Proof.FfnFormula
public import Idealize.ShloMosaic.Lib.Pointwise

@[expose] public section

noncomputable section

namespace Cert.Kernel2Ideal.Ffn

open Cert.Kernel2Ideal Cert.Kernel2Ideal.Gen Idealize.ShloMosaic Idealize.ShloMosaic.TcCoe

section
variable {F : FTy → Type} [FloatOps F]

/-- One group of 256 rows `v0`: gain `v2`, scale `v4`, shift `v6`, the two column chunks of the gate and up
    projections, the two row chunks of the down projection, and the output gate `v65`. -/
def rowBlock (v0 : Vec F S256x1024 .f32) (v2 : Vec F S1x1024 .f32) (v4 v6 : Vec F S1x1x1024 .f32)
    (g0 u0 : Vec F S1x1024x1536 .bf16) (d0 : Vec F S1x1536x1024 .bf16) (g1 u1 : Vec F S1x1024x1280 .bf16)
    (d1 : Vec F S1x1280x1024 .bf16) (v65 : Vec F S1x1x1024 .f32) : Vec F S256x1024 .f32 :=
  k0_pay7 (k0_pay2 v0) (k0_pay3 v0 v2 v4 v6) (k0_pay4 v0 v2 v4 v6 g0) (k0_pay5 v0 v2 v4 v6 u0) (k0_pay6 v0 v2 v4 v6 g0)
    (Scalar.ofBits .f32 0x3F800000#32) d0 g1 u1 d1 v65

/-- One group of rows with every operand read from the staged blocks. -/
def group (x0 : Vec F S256x1024 .f32) (x1 : Vec F S1x8x6144 .f32) (x2 : Vec F S1x1024 .f32)
    (x3 : Vec F S1x1024x5632 .bf16) (x4 : Vec F S1x2816x1024 .bf16) : Vec F S256x1024 .f32 :=
  rowBlock x0 (View.ld x2 r0_1) (View.ld x1 r0_2) (View.ld x1 r0_3) (View.ld x3 r0_4) (View.ld x3 r0_5)
    (View.ld x4 r0_6) (View.ld x3 r0_7) (View.ld x3 r0_8) (View.ld x4 r0_9) (View.ld x1 r0_10)

/-- The tile's four stores are the four groups. -/
theorem out_groups (x0 : Vec F S1024x1024 .f32) (x1 : Vec F S1x8x6144 .f32) (x2 : Vec F S1x1024 .f32)
    (x3 : Vec F S1x1024x5632 .bf16) (x4 : Vec F S1x2816x1024 .bf16) :
    out0_5 x0 x1 x2 x3 x4 = View.canon [⟨r0_13, group (View.ld x0 r0_13) x1 x2 x3 x4⟩,
      ⟨r0_12, group (View.ld x0 r0_12) x1 x2 x3 x4⟩, ⟨r0_11, group (View.ld x0 r0_11) x1 x2 x3 x4⟩,
      ⟨r0_0, group (View.ld x0 r0_0) x1 x2 x3 x4⟩] := rfl
end

set_option maxRecDepth 16384 in
/-- A group read at an index is the feed-forward formula of the group's row. -/
theorem group_apply (x0 : Vec Ideal S256x1024 .f32) (x1 : Vec Ideal S1x8x6144 .f32) (x2 : Vec Ideal S1x1024 .f32)
    (x3 : Vec Ideal S1x1024x5632 .bf16) (x4 : Vec Ideal S1x2816x1024 .bf16) (r : Fin 256) (j : Fin 1024) :
    group x0 x1 x2 x3 x4 (ix2 r j) = Cert.Ffn.layer (fun k => x0 (ix2 r k)) (fun k => x2 (ix2 0 k))
      (fun k => x1 (ix3 0 0 ⟨4096 + k, by omega⟩)) (fun k => x1 (ix3 0 0 ⟨3072 + k, by omega⟩))
      (fun k => x1 (ix3 0 0 ⟨5120 + k, by omega⟩)) (fun k p => x3 (ix3 0 k p)) (fun p k => x4 (ix3 0 p k)) j := by
  unfold Cert.Ffn.layer
  rw [Cert.Ffn.sum_chunks]
  unfold group rowBlock Cert.Ffn.act Cert.Ffn.gate Cert.Ffn.up Cert.Ffn.normed
  pointwise [k0_pay2, k0_pay3, k0_pay4, k0_pay5, k0_pay6, k0_pay7]
  have h4 (p : Fin 1280) : 2816 + (1536 + (p : ℕ)) = 4352 + p := by omega
  simp only [zero_sub, h4]

end Cert.Kernel2Ideal.Ffn

end
-- ==== Proof.FfnValue.lean ====
/-
  What the feed-forward kernel's result array holds after the run: the feed-forward formula of the argument arrays, at
  every index.
-/
module

public import proofs.«01_k».proof.Proof.FfnBlock
public import Idealize.ShloMosaic.Lib.Tactic
public import Idealize.ShloMosaic.Lib.StableHlo.Run

@[expose] public section

noncomputable section

namespace Cert.Kernel2Ideal.Ffn

open Cert.Kernel2Ideal Cert.Kernel2Ideal.Gen Idealize.ShloMosaic Idealize.ShloMosaic.TcCoe Idealize.SL.Sem
open Idealize.ShloMosaic.Pipeline (Dat)

variable (m : (ℓ : Loc nD τ sig) → Buf (Elt Ideal) ℓ)

/-! ## The argument arrays -/

abbrev a0 (c : Dev nD) : Vec Ideal S1x16384x1024 .f32 := m ((c.tc : Thread nD τ).loc main_arg0)
abbrev a1 (c : Dev nD) : Vec Ideal S1x1x6144 .f32 := m ((c.tc : Thread nD τ).loc main_arg1)
abbrev a2 (c : Dev nD) : Vec Ideal S4x1024 .f32 := m ((c.tc : Thread nD τ).loc main_arg2)
abbrev a3 (c : Dev nD) : Vec Ideal S4x1024x5632 .f32 := m ((c.tc : Thread nD τ).loc main_arg3)
abbrev a4 (c : Dev nD) : Vec Ideal S4x2816x1024 .f32 := m ((c.tc : Thread nD τ).loc main_arg4)

/-! ## The operands of the call, from the arguments -/

theorem V_rows (c : Dev nD) (i : S16384x1024.Idx) :
    (V m c main_v3 : Vec Ideal S16384x1024 .f32) i = a0 m c (ix3 0 (i 0) (i 1)) := by
  have h : (V m c main_v3 : Vec Ideal S16384x1024 .f32)
      = shapeCast S16384x1024 (a0 m c) shapeCasts_S1x16384x1024_S16384x1024 := by
    unfold V hostOps0; after_results_simp; rfl
  rw [h]; pointwise

theorem V_mods (c : Dev nD) (i : S4x8x6144.Idx) :
    (V m c main_v0 : Vec Ideal S4x8x6144 .f32) i = a1 m c (ix3 0 0 (i 2)) := by
  have h : (V m c main_v0 : Vec Ideal S4x8x6144 .f32)
      = broadcastInDim S4x8x6144 ![0, 1, 2] bcast_S1x1x6144_S4x8x6144_0_1_2 (a1 m c) := by
    unfold V hostOps0; after_results_simp
  rw [h]; pointwise

theorem V_gain (c : Dev nD) (i : S1x1024.Idx) :
    (V m c main_v6 : Vec Ideal S1x1024 .f32) i = a2 m c (ix2 3 (i 1)) := by
  have h6 : (V m c main_v6 : Vec Ideal S1x1024 .f32)
      = shapeCast S1x1024 (shapeCast S1024 (extractStridedSlice S1x1024 ![3, 0] (a2 m c) slices_S4x1024_S1x1024_3_0)
          shapeCasts_S1x1024_S1024) shapeCasts_S1024_S1x1024 := by
    unfold V hostOps0; after_results_simp; rfl
  rw [h6]; pointwise

theorem V_gateUp (c : Dev nD) (i : S4x1024x5632.Idx) :
    (V m c main_v1 : Vec Ideal S4x1024x5632 .bf16) i = a3 m c i := by
  have h : (V m c main_v1 : Vec Ideal S4x1024x5632 .bf16) =
        (truncf .bf16 (a3 m c : FVec Ideal S4x1024x5632 .f32) bitsLt_bf16_f32 : FVec Ideal S4x1024x5632 .bf16) := by
    unfold V hostOps0; after_results_simp
  rw [h]; rfl

theorem V_down (c : Dev nD) (i : S4x2816x1024.Idx) :
    (V m c main_v2 : Vec Ideal S4x2816x1024 .bf16) i = a4 m c i := by
  have h : (V m c main_v2 : Vec Ideal S4x2816x1024 .bf16) =
        (truncf .bf16 (a4 m c : FVec Ideal S4x2816x1024 .f32) bitsLt_bf16_f32 : FVec Ideal S4x2816x1024 .bf16) := by
    unfold V hostOps0; after_results_simp
  rw [h]; rfl

/-! ## The blocks a grid point reads -/

/-- The block index maps of the row windows, at every grid point. -/
theorem rows_index : ∀ t : Fin cfg0.N, win0_0.index t 0 = t.val ∧ win0_0.index t 1 = 0
    ∧ win0_5.index t 0 = t.val ∧ win0_5.index t 1 = 0 := by decide +kernel

theorem fixed_index : ∀ t : Fin cfg0.N, win0_1.index t 0 = 3 ∧ win0_1.index t 1 = 0 ∧ win0_1.index t 2 = 0
    ∧ win0_2.index t 0 = 0 ∧ win0_2.index t 1 = 0
    ∧ win0_3.index t 0 = 3 ∧ win0_3.index t 1 = 0 ∧ win0_3.index t 2 = 0
    ∧ win0_4.index t 0 = 3 ∧ win0_4.index t 1 = 0 ∧ win0_4.index t 2 = 0 := by decide +kernel

/-- Row `r` of the tile of grid point `t`. -/
def rowOf (t : Fin cfg0.N) (r : Fin 1024) : Fin 16384 :=
  ⟨1024 * t.val + r.val, by have : t.val < 16 := t.isLt; omega⟩

theorem iblk_rows (c : Dev nD) (t : Fin cfg0.N) (r k : Fin 1024) :
    (iblk m c 0 t : Vec Ideal S1024x1024 .f32) (ix2 r k) = a0 m c (ix3 0 (rowOf t r) k) := by
  unfold iblk
  rw [View.read_apply]
  refine (V_rows m c _).trans ?_
  obtain ⟨h0, h1, -, -⟩ := rows_index t
  congr 2
  · apply Fin.ext
    show win0_0.index t 0 * 1024 + 1 * r.val = 1024 * t.val + r.val
    rw [h0]; omega
  · apply Fin.ext
    show win0_0.index t 1 * 1024 + 1 * k.val = k.val
    rw [h1]; omega

theorem iblk_mods (c : Dev nD) (t : Fin cfg0.N) (k : Fin 6144) :
    (iblk m c 1 t : Vec Ideal S1x8x6144 .f32) (ix3 0 0 k) = a1 m c (ix3 0 0 k) := by
  unfold iblk
  rw [View.read_apply]
  refine (V_mods m c _).trans ?_
  obtain ⟨-, -, h, -⟩ := fixed_index t
  congr 2
  apply Fin.ext
  show win0_1.index t 2 * 6144 + 1 * k.val = k.val
  rw [h]; omega

theorem iblk_gain (c : Dev nD) (t : Fin cfg0.N) (k : Fin 1024) :
    (iblk m c 2 t : Vec Ideal S1x1024 .f32) (ix2 0 k) = a2 m c (ix2 3 k) := by
  unfold iblk
  rw [View.read_apply]
  refine (V_gain m c _).trans ?_
  obtain ⟨-, -, -, -, h, -⟩ := fixed_index t
  congr 2
  apply Fin.ext
  show win0_2.index t 1 * 1024 + 1 * k.val = k.val
  rw [h]; omega

theorem iblk_gateUp (c : Dev nD) (t : Fin cfg0.N) (k : Fin 1024) (p : Fin 5632) :
    (iblk m c 3 t : Vec Ideal S1x1024x5632 .bf16) (ix3 0 k p) = a3 m c (ix3 3 k p) := by
  unfold iblk
  rw [View.read_apply]
  refine (V_gateUp m c _).trans ?_
  obtain ⟨-, -, -, -, -, h0, h1, h2, -⟩ := fixed_index t
  congr 1
  funext a; apply Fin.ext
  match a with
  | ⟨0, _⟩ => show win0_3.index t 0 * 1 + 1 * 0 = 3; rw [h0]
  | ⟨1, _⟩ => show win0_3.index t 1 * 1024 + 1 * k.val = k.val; rw [h1]; omega
  | ⟨2, _⟩ => show win0_3.index t 2 * 5632 + 1 * p.val = p.val; rw [h2]; omega

theorem iblk_down (c : Dev nD) (t : Fin cfg0.N) (p : Fin 2816) (k : Fin 1024) :
    (iblk m c 4 t : Vec Ideal S1x2816x1024 .bf16) (ix3 0 p k) = a4 m c (ix3 3 p k) := by
  unfold iblk
  rw [View.read_apply]
  refine (V_down m c _).trans ?_
  obtain ⟨-, -, -, -, -, -, -, -, h0, h1, h2⟩ := fixed_index t
  congr 1
  funext a; apply Fin.ext
  match a with
  | ⟨0, _⟩ => show win0_4.index t 0 * 1 + 1 * 0 = 3; rw [h0]
  | ⟨1, _⟩ => show win0_4.index t 1 * 2816 + 1 * p.val = p.val; rw [h1]; omega
  | ⟨2, _⟩ => show win0_4.index t 2 * 1024 + 1 * k.val = k.val; rw [h2]; omega

/-! ## The result -/

/-- The feed-forward layer of the argument arrays. -/
def result (c : Dev nD) : Vec Ideal S16384x1024 .f32 := fun i =>
  Cert.Ffn.layer (fun k => a0 m c (ix3 0 (i 0) k)) (fun k => a2 m c (ix2 3 k))
    (fun k => a1 m c (ix3 0 0 ⟨4096 + k.val, by omega⟩)) (fun k => a1 m c (ix3 0 0 ⟨3072 + k.val, by omega⟩))
    (fun k => a1 m c (ix3 0 0 ⟨5120 + k.val, by omega⟩)) (fun k p => a3 m c (ix3 3 k p))
    (fun p k => a4 m c (ix3 3 p k)) (i 1)

/-- A group's rows, at an index of the group starting at row `o` of the tile. -/
theorem piece_apply (c : Dev nD) (t : Fin cfg0.N) (o : ℕ) (h : ∀ a, ![o, 0] a + S256x1024.size a ≤ S1024x1024.size a)
    (x : S256x1024.Idx) :
    group (View.ld (iblk m c 0 t : Vec Ideal S1024x1024 .f32) (Rect.unit (s := S1024x1024) ![o, 0] S256x1024.size h))
        (iblk m c 1 t) (iblk m c 2 t) (iblk m c 3 t) (iblk m c 4 t) x
      = result m c (ix2 (rowOf t ((Rect.unit (s := S1024x1024) ![o, 0] S256x1024.size h).emb x 0))
          ((Rect.unit (s := S1024x1024) ![o, 0] S256x1024.size h).emb x 1)) := by
  have ho : o + 256 ≤ 1024 := h 0
  obtain ⟨r, j, rfl⟩ : ∃ (r : Fin 256) (j : Fin 1024), x = ix2 r j :=
    ⟨x 0, x 1, funext fun a => match a with | ⟨0, _⟩ => rfl | ⟨1, _⟩ => rfl⟩
  have e0 : (Rect.unit (s := S1024x1024) ![o, 0] S256x1024.size h).emb (ix2 r j) 0 = (⟨o + r.val, by omega⟩ : Fin 1024) :=
    Fin.ext (show o + 1 * r.val = o + r.val by omega)
  have e1 : (Rect.unit (s := S1024x1024) ![o, 0] S256x1024.size h).emb (ix2 r j) 1 = j :=
    Fin.ext (show 0 + 1 * j.val = j.val by omega)
  have e (k : Fin 1024) : (Rect.unit (s := S1024x1024) ![o, 0] S256x1024.size h).emb (ix2 r k)
      = ix2 (⟨o + r.val, by omega⟩ : Fin 1024) k := funext fun a => match a with
    | ⟨0, _⟩ => Fin.ext (show o + 1 * r.val = o + r.val by omega)
    | ⟨1, _⟩ => Fin.ext (show 0 + 1 * k.val = k.val by omega)
  rw [group_apply, e0, e1]
  unfold result
  have l (k : Fin 1024) : View.ld (iblk m c 0 t : Vec Ideal S1024x1024 .f32)
      (Rect.unit (s := S1024x1024) ![o, 0] S256x1024.size h) (ix2 r k)
      = a0 m c (ix3 0 (rowOf t ⟨o + r.val, by omega⟩) k) :=
    (congrArg (iblk m c 0 t : Vec Ideal S1024x1024 .f32) (e k)).trans (iblk_rows m c t _ k)
  simp only [l, iblk_mods, iblk_gain, iblk_gateUp, iblk_down]
  rfl

/-- The block's payload at a grid point, at an index of the block: the layer at the row of the whole array. -/
theorem out_apply (c : Dev nD) (t : Fin cfg0.N) (y : S1024x1024.Idx) :
    out0_5 (iblk m c 0 t) (iblk m c 1 t) (iblk m c 2 t) (iblk m c 3 t) (iblk m c 4 t) y
      = result m c (ix2 (rowOf t (y 0)) (y 1)) := by
  rw [out_groups]
  refine View.canon_apply_of_pieces (fun y : S1024x1024.Idx => result m c (ix2 (rowOf t (y 0)) (y 1))) _ ?_ y
    (cover0_5 _ _ _ _ y)
  intro p hp x
  simp only [List.mem_cons, List.not_mem_nil, or_false] at hp
  rcases hp with rfl | rfl | rfl | rfl <;> exact piece_apply m c t _ _ x

/-- Every block the pipeline writes back is the result's. -/
theorem flushed_eq (c : Dev nD) (t : Fin cfg0.N) :
    (dats m 0 c).flushed 5 t = (win0_5.blk t).view.read (Elt Ideal) (result m c) := by
  show (cfg0.win 5).cut (grid0.coords t) ((dats m 0 c).after 5 t) = _
  rw [after0_5]
  funext y
  obtain ⟨-, -, h0, h1⟩ := rows_index t
  refine (out_apply m c t y).trans ?_
  rw [View.read_apply]
  refine congrArg (result m c) (funext fun a => ?_)
  match a with
  | ⟨0, _⟩ =>
    refine Fin.ext ?_
    show 1024 * t.val + (y 0).val = win0_5.index t 0 * 1024 + 1 * (y 0).val
    rw [h0]; omega
  | ⟨1, _⟩ =>
    refine Fin.ext ?_
    show (y 1).val = win0_5.index t 1 * 1024 + 1 * (y 1).val
    rw [h1]; omega

/-- Every index of the result is in the block of the grid point of its row. -/
theorem mem_blk (t : Fin cfg0.N) (i : S16384x1024.Idx) (h : 1024 * t.val ≤ (i 0).val ∧ (i 0).val < 1024 * t.val + 1024) :
    i ∈ ((cfg0.win 5).blk t).view.set := by
  show i ∈ ((View.whole main_v7).slice (win0_5.rect t)).set
  rw [View.set_slice_whole, Rect.mem_set_unit]
  have hi : (i 1 : Nat) < 1024 := (i 1).isLt
  obtain ⟨-, -, h0, h1⟩ := rows_index t
  intro a
  match a with
  | ⟨0, _⟩ =>
    show win0_5.index t 0 * 1024 ≤ (i 0 : Nat) ∧ (i 0 : Nat) < win0_5.index t 0 * 1024 + 1024
    rw [h0]; omega
  | ⟨1, _⟩ =>
    show win0_5.index t 1 * 1024 ≤ (i 1 : Nat) ∧ (i 1 : Nat) < win0_5.index t 1 * 1024 + 1024
    rw [h1]; omega

theorem final (c : Dev nD) : (dats m 0 c).arrAt 5 cfg0.N = result m c :=
  (dats m 0 c).arrAt_eq_of_cover 5 _ (fun t _ => flushed_eq m c t) fun i =>
    let hi : (i 0 : Nat) < 16384 := (i 0).isLt
    let t : Fin cfg0.N := ⟨(i 0 : Nat) / 1024, by show _ < 16; omega⟩
    ⟨t, flush0_5 t, mem_blk t i (by show 1024 * ((i 0 : Nat) / 1024) ≤ _ ∧ _ < 1024 * ((i 0 : Nat) / 1024) + 1024; omega)⟩

end Cert.Kernel2Ideal.Ffn

end
-- ==== Proof.FfnRef.lean ====
/-
  The feed-forward reference's result read at an index is the feed-forward formula of its arguments.
-/
module

public import proofs.«01_k».proof.Proof.Gen.Reference2Ideal.Run
public import proofs.«01_k».proof.Proof.FfnFormula
public import Idealize.ShloMosaic.Lib.Tactic
public import Idealize.ShloMosaic.Lib.Tactic.CleanTypes

@[expose] public section

noncomputable section

namespace Cert.Reference2Ideal.Ffn

open Cert.Reference2Ideal Cert.Reference2Ideal.Gen Idealize.ShloMosaic Idealize.ShloMosaic.TcCoe

set_option maxHeartbeats 4000000 in
set_option maxRecDepth 16384 in
theorem res_apply (m : (ℓ : Loc nD τ sig) → Buf (Elt Ideal) ℓ) (c : Dev nD) (x0 : Vec Ideal S1x16384x1024 .f32)
    (x1 : Vec Ideal S1x1x6144 .f32) (x2 : Vec Ideal S4x1024 .f32) (x3 : Vec Ideal S4x1024x5632 .f32)
    (x4 : Vec Ideal S4x2816x1024 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (r : Fin 16384) (j : Fin 1024) :
    (Value.res_main_v40 m c : Vec Ideal S16384x1024 .f32) (ix2 r j) = Cert.Ffn.layer (fun k => x0 (ix3 0 r k)) (fun k => x2 (ix2 3 k))
      (fun k => x1 (ix3 0 0 ⟨4096 + k, by omega⟩)) (fun k => x1 (ix3 0 0 ⟨3072 + k, by omega⟩))
      (fun k => x1 (ix3 0 0 ⟨5120 + k, by omega⟩)) (fun k p => x3 (ix3 3 k p)) (fun p k => x4 (ix3 3 p k)) j := by
  unfold Value.res_main_v40
  rw [h0, h1, h2, h3, h4]
  unfold Cert.Ffn.layer Cert.Ffn.act Cert.Ffn.gate Cert.Ffn.up Cert.Ffn.normed
  clean_types
  pointwise
  simp only [mul_assoc]

end Cert.Reference2Ideal.Ffn

end
-- ==== Proof.FfnClaims.lean ====
/-
  The claims about the feed-forward call: its frames, and the equation with its reference.
-/
module

public import proofs.«01_k».proof.Defs
public import proofs.«01_k».proof.Proof.Gen.Kernel2.Frame
public import proofs.«01_k».proof.Proof.FfnValue
public import proofs.«01_k».proof.Proof.FfnRef
public import Idealize.ShloMosaic.Lib.Quiescent

@[expose] public section

noncomputable section

namespace Cert.Ffn

open Idealize.ShloMosaic Idealize.ShloMosaic.TcCoe Idealize.SL.Sem

theorem frame_kernel : Cert.quiescent_Kernel2 := fun m ρ _ => Cert.Kernel2.Gen.frame m ρ

theorem frame_kernelIdeal : Cert.quiescent_Kernel2Ideal := fun m ρ _ => Cert.Kernel2Ideal.Gen.frame m ρ

theorem frame_reference : Cert.quiescent_Reference2Ideal := fun m ρ _ =>
  (θ_run Cert.Reference2Ideal.defs _ _).mono
    (fun r h => ⟨fun c => (h c).2, sem_eq_zero_of_no_sems (by decide) r.2⟩)
    (Cert.Reference2Ideal.Value.run (F := Ideal) m ρ)

/-- Both programs compute the feed-forward formula of the arguments. -/
theorem algebraic : Cert.algebraic_Kernel2Ideal_Reference2Ideal := by
  intro m ρ m' ρ' _ hagree
  refine ⟨fun c => Cert.Kernel2Ideal.Ffn.result m c, ?_, ?_⟩
  · exact (θ_run Cert.Kernel2Ideal.defs _ _).mono
      (fun _ h c => ⟨(h c).1.trans (Cert.Kernel2Ideal.Ffn.final m c), (h c).2⟩)
      (Cert.Kernel2Ideal.Value.run_blocks m ρ)
  · refine (θ_run Cert.Reference2Ideal.defs _ _).mono (fun _ h c => ⟨(h c).1.trans ?_, (h c).2⟩)
      (Cert.Reference2Ideal.Value.run (F := Ideal) m' ρ')
    obtain ⟨h0, h1, h2, h3, h4⟩ := hagree c
    funext i
    obtain ⟨r, j, rfl⟩ : ∃ (r : Fin 16384) (j : Fin 1024), i = ix2 r j :=
      ⟨i 0, i 1, funext fun a => match a with | ⟨0, _⟩ => rfl | ⟨1, _⟩ => rfl⟩
    exact Cert.Reference2Ideal.Ffn.res_apply m' c _ _ _ _ _ h0 h1 h2 h3 h4 r j

end Cert.Ffn

end
-- ==== Proof.FusedFormula.lean ====
/-
  The row the feed-forward layer works on when the attention's output projection is fused into the call.
-/
module

public import proofs.«01_k».proof.Proof.FfnFormula

@[expose] public section

noncomputable section

namespace Cert.Ffn

/-- The residual row `h` with the attention row `o`, projected by `w` and gated by `g`, added. -/
def mixed (h g o : Fin 1024 → EReal) (w : Fin 1024 → Fin 1024 → EReal) (k : Fin 1024) : EReal :=
  h k + g k * ∑ x, o x * w x k

end Cert.Ffn

end
-- ==== Proof.FusedBlock.lean ====
/-
  What the feed-forward kernel with an attention operand computes for one group of 256 rows: the four groups of a tile
  are one function of the group's rows (`group`), and over the extended reals that function read at an index is the
  gated feed-forward formula of the residual row with the projected attention row added (`group_apply`).
-/
module

public import proofs.«01_k».proof.Proof.Gen.Kernel3Ideal.Value
public import proofs.«01_k».proof.Proof.FusedFormula
public import Idealize.ShloMosaic.Lib.Pointwise

@[expose] public section

noncomputable section

namespace Cert.Kernel3Ideal.Ffn

open Cert.Kernel3Ideal Cert.Kernel3Ideal.Gen Idealize.ShloMosaic Idealize.ShloMosaic.TcCoe

section
variable {F : FTy → Type} [FloatOps F]

/-- One group of 256 rows, every other operand read from the staged blocks: `x0` the attention rows, `x2` the residual
    rows. -/
def group (x0 : Vec F S256x1024 .bf16) (x1 : Vec F S1024x1024 .bf16) (x2 : Vec F S256x1024 .f32)
    (x3 : Vec F S1x8x6144 .f32) (x4 : Vec F S1x1024 .f32) (x5 : Vec F S1x1024x5632 .bf16)
    (x6 : Vec F S1x2816x1024 .bf16) : Vec F S256x1024 .f32 :=
  k0_pay6 (k0_pay2 x2 (View.ld x3 r0_1) x0 (View.ld x1 r0_2))
    (k0_pay4 (k0_pay3 x2 (View.ld x3 r0_1) x0 (View.ld x1 r0_2) (View.ld x4 r0_3) (View.ld x3 r0_4) (View.ld x3 r0_5))
      (View.ld x5 r0_6) (View.ld x5 r0_7) (View.ld x6 r0_8))
    (k0_pay5 (k0_pay3 x2 (View.ld x3 r0_1) x0 (View.ld x1 r0_2) (View.ld x4 r0_3) (View.ld x3 r0_4) (View.ld x3 r0_5))
      (View.ld x5 r0_9) (View.ld x5 r0_10))
    (View.ld x6 r0_11) (View.ld x3 r0_12)

/-- The tile's four stores are the four groups. -/
theorem out_groups (x0 : Vec F S1024x1024 .bf16) (x1 : Vec F S1024x1024 .bf16) (x2 : Vec F S1024x1024 .f32)
    (x3 : Vec F S1x8x6144 .f32) (x4 : Vec F S1x1024 .f32) (x5 : Vec F S1x1024x5632 .bf16)
    (x6 : Vec F S1x2816x1024 .bf16) :
    out0_7 x0 x1 x2 x3 x4 x5 x6 = View.canon
      [⟨r0_15, group (View.ld x0 r0_15) x1 (View.ld x2 r0_15) x3 x4 x5 x6⟩,
       ⟨r0_14, group (View.ld x0 r0_14) x1 (View.ld x2 r0_14) x3 x4 x5 x6⟩,
       ⟨r0_13, group (View.ld x0 r0_13) x1 (View.ld x2 r0_13) x3 x4 x5 x6⟩,
       ⟨r0_0, group (View.ld x0 r0_0) x1 (View.ld x2 r0_0) x3 x4 x5 x6⟩] := rfl
end

set_option maxHeartbeats 1000000 in
set_option maxRecDepth 16384 in
/-- A group read at an index is the feed-forward formula of the group's row. -/
theorem group_apply (x0 : Vec Ideal S256x1024 .bf16) (x1 : Vec Ideal S1024x1024 .bf16) (x2 : Vec Ideal S256x1024 .f32)
    (x3 : Vec Ideal S1x8x6144 .f32) (x4 : Vec Ideal S1x1024 .f32) (x5 : Vec Ideal S1x1024x5632 .bf16)
    (x6 : Vec Ideal S1x2816x1024 .bf16) (r : Fin 256) (j : Fin 1024) :
    group x0 x1 x2 x3 x4 x5 x6 (ix2 r j) = Cert.Ffn.layer
      (Cert.Ffn.mixed (fun k => x2 (ix2 r k)) (fun k => x3 (ix3 0 0 ⟨2048 + k, by omega⟩)) (fun k => x0 (ix2 r k))
        (fun x k => x1 (ix2 x k)))
      (fun k => x4 (ix2 0 k))
      (fun k => x3 (ix3 0 0 ⟨4096 + k, by omega⟩)) (fun k => x3 (ix3 0 0 ⟨3072 + k, by omega⟩))
      (fun k => x3 (ix3 0 0 ⟨5120 + k, by omega⟩)) (fun k p => x5 (ix3 0 k p)) (fun p k => x6 (ix3 0 p k)) j := by
  unfold Cert.Ffn.layer
  rw [Cert.Ffn.sum_chunks]
  unfold group Cert.Ffn.act Cert.Ffn.gate Cert.Ffn.up Cert.Ffn.normed Cert.Ffn.mixed
  pointwise [k0_pay2, k0_pay3, k0_pay4, k0_pay5, k0_pay6]
  have h4 (p : Fin 1280) : 2816 + (1536 + (p : ℕ)) = 4352 + p := by omega
  simp only [zero_sub, h4]

end Cert.Kernel3Ideal.Ffn

end
-- ==== Proof.FusedValue.lean ====
/-
  What the result array of the feed-forward kernel with an attention operand holds after the run: the feed-forward
  formula of the argument arrays, at every index.
-/
module

public import proofs.«01_k».proof.Proof.FusedBlock
public import Idealize.ShloMosaic.Lib.Tactic
public import Idealize.ShloMosaic.Lib.StableHlo.Run

@[expose] public section

noncomputable section

namespace Cert.Kernel3Ideal.Ffn

open Cert.Kernel3Ideal Cert.Kernel3Ideal.Gen Idealize.ShloMosaic Idealize.ShloMosaic.TcCoe Idealize.SL.Sem
open Idealize.ShloMosaic.Pipeline (Dat)

variable (m : (ℓ : Loc nD τ sig) → Buf (Elt Ideal) ℓ)

/-! ## The argument arrays -/

abbrev a0 (c : Dev nD) : Vec Ideal S1x16384x1024 .f32 := m ((c.tc : Thread nD τ).loc main_arg0)
abbrev a1 (c : Dev nD) : Vec Ideal S1024x1024 .f32 := m ((c.tc : Thread nD τ).loc main_arg1)
abbrev a2 (c : Dev nD) : Vec Ideal S1x16384x1024 .f32 := m ((c.tc : Thread nD τ).loc main_arg2)
abbrev a3 (c : Dev nD) : Vec Ideal S1x1x6144 .f32 := m ((c.tc : Thread nD τ).loc main_arg3)
abbrev a4 (c : Dev nD) : Vec Ideal S4x1024 .f32 := m ((c.tc : Thread nD τ).loc main_arg4)
abbrev a5 (c : Dev nD) : Vec Ideal S4x1024x5632 .f32 := m ((c.tc : Thread nD τ).loc main_arg5)
abbrev a6 (c : Dev nD) : Vec Ideal S4x2816x1024 .f32 := m ((c.tc : Thread nD τ).loc main_arg6)

/-! ## The operands of the call, from the arguments -/

theorem V_attn (c : Dev nD) (i : S16384x1024.Idx) :
    (V m c main_v4 : Vec Ideal S16384x1024 .bf16) i = a0 m c (ix3 0 (i 0) (i 1)) := by
  have h : (V m c main_v4 : Vec Ideal S16384x1024 .bf16)
      = (truncf .bf16 (shapeCast S16384x1024 (a0 m c) shapeCasts_S1x16384x1024_S16384x1024 : FVec Ideal S16384x1024 .f32)
          bitsLt_bf16_f32 : FVec Ideal S16384x1024 .bf16) := by
    unfold V hostOps0; after_results_simp; rfl
  rw [h]; pointwise

theorem V_proj (c : Dev nD) (i : S1024x1024.Idx) :
    (V m c main_v5 : Vec Ideal S1024x1024 .bf16) i = a1 m c i := by
  have h : (V m c main_v5 : Vec Ideal S1024x1024 .bf16) =
        (truncf .bf16 (a1 m c : FVec Ideal S1024x1024 .f32) bitsLt_bf16_f32 : FVec Ideal S1024x1024 .bf16) := by
    unfold V hostOps0; after_results_simp
  rw [h]; rfl

theorem V_rows (c : Dev nD) (i : S16384x1024.Idx) :
    (V m c main_v6 : Vec Ideal S16384x1024 .f32) i = a2 m c (ix3 0 (i 0) (i 1)) := by
  have h : (V m c main_v6 : Vec Ideal S16384x1024 .f32)
      = shapeCast S16384x1024 (a2 m c) shapeCasts_S1x16384x1024_S16384x1024 := by
    unfold V hostOps0; after_results_simp; rfl
  rw [h]; pointwise

theorem V_mods (c : Dev nD) (i : S4x8x6144.Idx) :
    (V m c main_v0 : Vec Ideal S4x8x6144 .f32) i = a3 m c (ix3 0 0 (i 2)) := by
  have h : (V m c main_v0 : Vec Ideal S4x8x6144 .f32)
      = broadcastInDim S4x8x6144 ![0, 1, 2] bcast_S1x1x6144_S4x8x6144_0_1_2 (a3 m c) := by
    unfold V hostOps0; after_results_simp
  rw [h]; pointwise

theorem V_gain (c : Dev nD) (i : S1x1024.Idx) :
    (V m c main_v9 : Vec Ideal S1x1024 .f32) i = a4 m c (ix2 0 (i 1)) := by
  have h : (V m c main_v9 : Vec Ideal S1x1024 .f32)
      = shapeCast S1x1024 (shapeCast S1024 (extractStridedSlice S1x1024 ![0, 0] (a4 m c) slices_S4x1024_S1x1024_0_0)
          shapeCasts_S1x1024_S1024) shapeCasts_S1024_S1x1024 := by
    unfold V hostOps0; after_results_simp; rfl
  rw [h]; pointwise

theorem V_gateUp (c : Dev nD) (i : S4x1024x5632.Idx) :
    (V m c main_v1 : Vec Ideal S4x1024x5632 .bf16) i = a5 m c i := by
  have h : (V m c main_v1 : Vec Ideal S4x1024x5632 .bf16) =
        (truncf .bf16 (a5 m c : FVec Ideal S4x1024x5632 .f32) bitsLt_bf16_f32 : FVec Ideal S4x1024x5632 .bf16) := by
    unfold V hostOps0; after_results_simp
  rw [h]; rfl

theorem V_down (c : Dev nD) (i : S4x2816x1024.Idx) :
    (V m c main_v2 : Vec Ideal S4x2816x1024 .bf16) i = a6 m c i := by
  have h : (V m c main_v2 : Vec Ideal S4x2816x1024 .bf16) =
        (truncf .bf16 (a6 m c : FVec Ideal S4x2816x1024 .f32) bitsLt_bf16_f32 : FVec Ideal S4x2816x1024 .bf16) := by
    unfold V hostOps0; after_results_simp
  rw [h]; rfl

/-! ## The blocks a grid point reads -/

/-- The block index maps of the row windows, at every grid point. -/
theorem rows_index : ∀ t : Fin cfg0.N, win0_0.index t 0 = t.val ∧ win0_0.index t 1 = 0
    ∧ win0_2.index t 0 = t.val ∧ win0_2.index t 1 = 0
    ∧ win0_7.index t 0 = t.val ∧ win0_7.index t 1 = 0 := by decide +kernel

theorem fixed_index : ∀ t : Fin cfg0.N, win0_3.index t 0 = 0 ∧ win0_3.index t 1 = 0 ∧ win0_3.index t 2 = 0
    ∧ win0_4.index t 0 = 0 ∧ win0_4.index t 1 = 0
    ∧ win0_5.index t 0 = 0 ∧ win0_5.index t 1 = 0 ∧ win0_5.index t 2 = 0
    ∧ win0_6.index t 0 = 0 ∧ win0_6.index t 1 = 0 ∧ win0_6.index t 2 = 0
    ∧ win0_1.index t 0 = 0 ∧ win0_1.index t 1 = 0 := by decide +kernel

/-- Row `r` of the tile of grid point `t`. -/
def rowOf (t : Fin cfg0.N) (r : Fin 1024) : Fin 16384 :=
  ⟨1024 * t.val + r.val, by have : t.val < 16 := t.isLt; omega⟩

theorem iblk_attn (c : Dev nD) (t : Fin cfg0.N) (r k : Fin 1024) :
    (iblk m c 0 t : Vec Ideal S1024x1024 .bf16) (ix2 r k) = a0 m c (ix3 0 (rowOf t r) k) := by
  unfold iblk
  rw [View.read_apply]
  refine (V_attn m c _).trans ?_
  obtain ⟨h0, h1, -⟩ := rows_index t
  congr 2
  · apply Fin.ext
    show win0_0.index t 0 * 1024 + 1 * r.val = 1024 * t.val + r.val
    rw [h0]; omega
  · apply Fin.ext
    show win0_0.index t 1 * 1024 + 1 * k.val = k.val
    rw [h1]; omega

theorem iblk_proj (c : Dev nD) (t : Fin cfg0.N) (x k : Fin 1024) :
    (iblk m c 1 t : Vec Ideal S1024x1024 .bf16) (ix2 x k) = a1 m c (ix2 x k) := by
  unfold iblk
  rw [View.read_apply]
  refine (V_proj m c _).trans ?_
  obtain ⟨-, -, -, -, -, -, -, -, -, -, -, h0, h1⟩ := fixed_index t
  congr 1
  funext a; apply Fin.ext
  match a with
  | ⟨0, _⟩ => show win0_1.index t 0 * 1024 + 1 * x.val = x.val; rw [h0]; omega
  | ⟨1, _⟩ => show win0_1.index t 1 * 1024 + 1 * k.val = k.val; rw [h1]; omega

theorem iblk_rows (c : Dev nD) (t : Fin cfg0.N) (r k : Fin 1024) :
    (iblk m c 2 t : Vec Ideal S1024x1024 .f32) (ix2 r k) = a2 m c (ix3 0 (rowOf t r) k) := by
  unfold iblk
  rw [View.read_apply]
  refine (V_rows m c _).trans ?_
  obtain ⟨-, -, h0, h1, -⟩ := rows_index t
  congr 2
  · apply Fin.ext
    show win0_2.index t 0 * 1024 + 1 * r.val = 1024 * t.val + r.val
    rw [h0]; omega
  · apply Fin.ext
    show win0_2.index t 1 * 1024 + 1 * k.val = k.val
    rw [h1]; omega

theorem iblk_mods (c : Dev nD) (t : Fin cfg0.N) (k : Fin 6144) :
    (iblk m c 3 t : Vec Ideal S1x8x6144 .f32) (ix3 0 0 k) = a3 m c (ix3 0 0 k) := by
  unfold iblk
  rw [View.read_apply]
  refine (V_mods m c _).trans ?_
  obtain ⟨-, -, h, -⟩ := fixed_index t
  congr 2
  apply Fin.ext
  show win0_3.index t 2 * 6144 + 1 * k.val = k.val
  rw [h]; omega

theorem iblk_gain (c : Dev nD) (t : Fin cfg0.N) (k : Fin 1024) :
    (iblk m c 4 t : Vec Ideal S1x1024 .f32) (ix2 0 k) = a4 m c (ix2 0 k) := by
  unfold iblk
  rw [View.read_apply]
  refine (V_gain m c _).trans ?_
  obtain ⟨-, -, -, -, h, -⟩ := fixed_index t
  congr 2
  apply Fin.ext
  show win0_4.index t 1 * 1024 + 1 * k.val = k.val
  rw [h]; omega

theorem iblk_gateUp (c : Dev nD) (t : Fin cfg0.N) (k : Fin 1024) (p : Fin 5632) :
    (iblk m c 5 t : Vec Ideal S1x1024x5632 .bf16) (ix3 0 k p) = a5 m c (ix3 0 k p) := by
  unfold iblk
  rw [View.read_apply]
  refine (V_gateUp m c _).trans ?_
  obtain ⟨-, -, -, -, -, h0, h1, h2, -⟩ := fixed_index t
  congr 1
  funext a; apply Fin.ext
  match a with
  | ⟨0, _⟩ => show win0_5.index t 0 * 1 + 1 * 0 = 0; rw [h0]
  | ⟨1, _⟩ => show win0_5.index t 1 * 1024 + 1 * k.val = k.val; rw [h1]; omega
  | ⟨2, _⟩ => show win0_5.index t 2 * 5632 + 1 * p.val = p.val; rw [h2]; omega

theorem iblk_down (c : Dev nD) (t : Fin cfg0.N) (p : Fin 2816) (k : Fin 1024) :
    (iblk m c 6 t : Vec Ideal S1x2816x1024 .bf16) (ix3 0 p k) = a6 m c (ix3 0 p k) := by
  unfold iblk
  rw [View.read_apply]
  refine (V_down m c _).trans ?_
  obtain ⟨-, -, -, -, -, -, -, -, h0, h1, h2, -⟩ := fixed_index t
  congr 1
  funext a; apply Fin.ext
  match a with
  | ⟨0, _⟩ => show win0_6.index t 0 * 1 + 1 * 0 = 0; rw [h0]
  | ⟨1, _⟩ => show win0_6.index t 1 * 2816 + 1 * p.val = p.val; rw [h1]; omega
  | ⟨2, _⟩ => show win0_6.index t 2 * 1024 + 1 * k.val = k.val; rw [h2]; omega

/-! ## The result -/

/-- The feed-forward layer of the argument arrays. -/
def result (c : Dev nD) : Vec Ideal S16384x1024 .f32 := fun i =>
  Cert.Ffn.layer
    (Cert.Ffn.mixed (fun k => a2 m c (ix3 0 (i 0) k)) (fun k => a3 m c (ix3 0 0 ⟨2048 + k.val, by omega⟩))
      (fun k => a0 m c (ix3 0 (i 0) k)) (fun x k => a1 m c (ix2 x k)))
    (fun k => a4 m c (ix2 0 k))
    (fun k => a3 m c (ix3 0 0 ⟨4096 + k.val, by omega⟩)) (fun k => a3 m c (ix3 0 0 ⟨3072 + k.val, by omega⟩))
    (fun k => a3 m c (ix3 0 0 ⟨5120 + k.val, by omega⟩)) (fun k p => a5 m c (ix3 0 k p))
    (fun p k => a6 m c (ix3 0 p k)) (i 1)

/-- A group's rows, at an index of the group starting at row `o` of the tile. -/
theorem piece_apply (c : Dev nD) (t : Fin cfg0.N) (o : ℕ) (h : ∀ a, ![o, 0] a + S256x1024.size a ≤ S1024x1024.size a)
    (x : S256x1024.Idx) :
    group (View.ld (iblk m c 0 t : Vec Ideal S1024x1024 .bf16) (Rect.unit (s := S1024x1024) ![o, 0] S256x1024.size h))
        (iblk m c 1 t)
        (View.ld (iblk m c 2 t : Vec Ideal S1024x1024 .f32) (Rect.unit (s := S1024x1024) ![o, 0] S256x1024.size h))
        (iblk m c 3 t) (iblk m c 4 t) (iblk m c 5 t) (iblk m c 6 t) x
      = result m c (ix2 (rowOf t ((Rect.unit (s := S1024x1024) ![o, 0] S256x1024.size h).emb x 0))
          ((Rect.unit (s := S1024x1024) ![o, 0] S256x1024.size h).emb x 1)) := by
  have ho : o + 256 ≤ 1024 := h 0
  obtain ⟨r, j, rfl⟩ : ∃ (r : Fin 256) (j : Fin 1024), x = ix2 r j :=
    ⟨x 0, x 1, funext fun a => match a with | ⟨0, _⟩ => rfl | ⟨1, _⟩ => rfl⟩
  have e0 : (Rect.unit (s := S1024x1024) ![o, 0] S256x1024.size h).emb (ix2 r j) 0 = (⟨o + r.val, by omega⟩ : Fin 1024) :=
    Fin.ext (show o + 1 * r.val = o + r.val by omega)
  have e1 : (Rect.unit (s := S1024x1024) ![o, 0] S256x1024.size h).emb (ix2 r j) 1 = j :=
    Fin.ext (show 0 + 1 * j.val = j.val by omega)
  have e (k : Fin 1024) : (Rect.unit (s := S1024x1024) ![o, 0] S256x1024.size h).emb (ix2 r k)
      = ix2 (⟨o + r.val, by omega⟩ : Fin 1024) k := funext fun a => match a with
    | ⟨0, _⟩ => Fin.ext (show o + 1 * r.val = o + r.val by omega)
    | ⟨1, _⟩ => Fin.ext (show 0 + 1 * k.val = k.val by omega)
  rw [group_apply, e0, e1]
  unfold result
  have la (k : Fin 1024) : View.ld (iblk m c 0 t : Vec Ideal S1024x1024 .bf16)
      (Rect.unit (s := S1024x1024) ![o, 0] S256x1024.size h) (ix2 r k)
      = a0 m c (ix3 0 (rowOf t ⟨o + r.val, by omega⟩) k) :=
    (congrArg (iblk m c 0 t : Vec Ideal S1024x1024 .bf16) (e k)).trans (iblk_attn m c t _ k)
  have l (k : Fin 1024) : View.ld (iblk m c 2 t : Vec Ideal S1024x1024 .f32)
      (Rect.unit (s := S1024x1024) ![o, 0] S256x1024.size h) (ix2 r k)
      = a2 m c (ix3 0 (rowOf t ⟨o + r.val, by omega⟩) k) :=
    (congrArg (iblk m c 2 t : Vec Ideal S1024x1024 .f32) (e k)).trans (iblk_rows m c t _ k)
  simp only [la, l, iblk_proj, iblk_mods, iblk_gain, iblk_gateUp, iblk_down]
  rfl

/-- The block's payload at a grid point, at an index of the block: the layer at the row of the whole array. -/
theorem out_apply (c : Dev nD) (t : Fin cfg0.N) (y : S1024x1024.Idx) :
    out0_7 (iblk m c 0 t) (iblk m c 1 t) (iblk m c 2 t) (iblk m c 3 t) (iblk m c 4 t) (iblk m c 5 t) (iblk m c 6 t) y
      = result m c (ix2 (rowOf t (y 0)) (y 1)) := by
  rw [out_groups]
  refine View.canon_apply_of_pieces (fun y : S1024x1024.Idx => result m c (ix2 (rowOf t (y 0)) (y 1))) _ ?_ y
    (cover0_7 _ _ _ _ y)
  intro p hp x
  simp only [List.mem_cons, List.not_mem_nil, or_false] at hp
  rcases hp with rfl | rfl | rfl | rfl <;> exact piece_apply m c t _ _ x

/-- Every block the pipeline writes back is the result's. -/
theorem flushed_eq (c : Dev nD) (t : Fin cfg0.N) :
    (dats m 0 c).flushed 7 t = (win0_7.blk t).view.read (Elt Ideal) (result m c) := by
  show (cfg0.win 7).cut (grid0.coords t) ((dats m 0 c).after 7 t) = _
  rw [after0_7]
  funext y
  obtain ⟨-, -, -, -, h0, h1⟩ := rows_index t
  refine (out_apply m c t y).trans ?_
  rw [View.read_apply]
  refine congrArg (result m c) (funext fun a => ?_)
  match a with
  | ⟨0, _⟩ =>
    refine Fin.ext ?_
    show 1024 * t.val + (y 0).val = win0_7.index t 0 * 1024 + 1 * (y 0).val
    rw [h0]; omega
  | ⟨1, _⟩ =>
    refine Fin.ext ?_
    show (y 1).val = win0_7.index t 1 * 1024 + 1 * (y 1).val
    rw [h1]; omega

/-- Every index of the result is in the block of the grid point of its row. -/
theorem mem_blk (t : Fin cfg0.N) (i : S16384x1024.Idx) (h : 1024 * t.val ≤ (i 0).val ∧ (i 0).val < 1024 * t.val + 1024) :
    i ∈ ((cfg0.win 7).blk t).view.set := by
  show i ∈ ((View.whole main_v10).slice (win0_7.rect t)).set
  rw [View.set_slice_whole, Rect.mem_set_unit]
  have hi : (i 1 : Nat) < 1024 := (i 1).isLt
  obtain ⟨-, -, -, -, h0, h1⟩ := rows_index t
  intro a
  match a with
  | ⟨0, _⟩ =>
    show win0_7.index t 0 * 1024 ≤ (i 0 : Nat) ∧ (i 0 : Nat) < win0_7.index t 0 * 1024 + 1024
    rw [h0]; omega
  | ⟨1, _⟩ =>
    show win0_7.index t 1 * 1024 ≤ (i 1 : Nat) ∧ (i 1 : Nat) < win0_7.index t 1 * 1024 + 1024
    rw [h1]; omega

theorem final (c : Dev nD) : (dats m 0 c).arrAt 7 cfg0.N = result m c :=
  (dats m 0 c).arrAt_eq_of_cover 7 _ (fun t _ => flushed_eq m c t) fun i =>
    let hi : (i 0 : Nat) < 16384 := (i 0).isLt
    let t : Fin cfg0.N := ⟨(i 0 : Nat) / 1024, by show _ < 16; omega⟩
    ⟨t, flush0_7 t, mem_blk t i (by show 1024 * ((i 0 : Nat) / 1024) ≤ _ ∧ _ < 1024 * ((i 0 : Nat) / 1024) + 1024; omega)⟩

end Cert.Kernel3Ideal.Ffn

end
-- ==== Proof.FusedRef.lean ====
/-
  The fused reference's result read at an index is the feed-forward formula of the residual row with the projected
  attention row added.
-/
module

public import proofs.«01_k».proof.Proof.Gen.Reference3Ideal.Run
public import proofs.«01_k».proof.Proof.FusedFormula
public import Idealize.ShloMosaic.Lib.Tactic
public import Idealize.ShloMosaic.Lib.Tactic.CleanTypes

@[expose] public section

noncomputable section

namespace Cert.Reference3Ideal.Ffn

open Cert.Reference3Ideal Cert.Reference3Ideal.Gen Idealize.ShloMosaic Idealize.ShloMosaic.TcCoe

set_option maxHeartbeats 4000000 in
set_option maxRecDepth 16384 in
theorem res_apply (m : (ℓ : Loc nD τ sig) → Buf (Elt Ideal) ℓ) (c : Dev nD) (x0 : Vec Ideal S1x16384x1024 .f32)
    (x1 : Vec Ideal S1024x1024 .f32) (x2 : Vec Ideal S1x16384x1024 .f32)
    (x3 : Vec Ideal S1x1x6144 .f32) (x4 : Vec Ideal S4x1024 .f32) (x5 : Vec Ideal S4x1024x5632 .f32)
    (x6 : Vec Ideal S4x2816x1024 .f32)
    (h0 : m ((c.tc : Thread nD τ).loc main_arg0) = x0) (h1 : m ((c.tc : Thread nD τ).loc main_arg1) = x1)
    (h2 : m ((c.tc : Thread nD τ).loc main_arg2) = x2) (h3 : m ((c.tc : Thread nD τ).loc main_arg3) = x3)
    (h4 : m ((c.tc : Thread nD τ).loc main_arg4) = x4) (h5 : m ((c.tc : Thread nD τ).loc main_arg5) = x5)
    (h6 : m ((c.tc : Thread nD τ).loc main_arg6) = x6) (r : Fin 16384) (j : Fin 1024) :
    (Value.res_main_v44 m c : Vec Ideal S16384x1024 .f32) (ix2 r j) = Cert.Ffn.layer
      (Cert.Ffn.mixed (fun k => x2 (ix3 0 r k)) (fun k => x3 (ix3 0 0 ⟨2048 + k, by omega⟩)) (fun k => x0 (ix3 0 r k))
        (fun x k => x1 (ix2 x k)))
      (fun k => x4 (ix2 0 k))
      (fun k => x3 (ix3 0 0 ⟨4096 + k, by omega⟩)) (fun k => x3 (ix3 0 0 ⟨3072 + k, by omega⟩))
      (fun k => x3 (ix3 0 0 ⟨5120 + k, by omega⟩)) (fun k p => x5 (ix3 0 k p)) (fun p k => x6 (ix3 0 p k)) j := by
  unfold Value.res_main_v44
  rw [h0, h1, h2, h3, h4, h5, h6]
  unfold Cert.Ffn.layer Cert.Ffn.act Cert.Ffn.gate Cert.Ffn.up Cert.Ffn.normed Cert.Ffn.mixed
  clean_types
  pointwise
  simp only [mul_assoc]

end Cert.Reference3Ideal.Ffn

end
-- ==== Proof.FusedClaims.lean ====
/-
  The claims about the feed-forward call with an attention operand: its frames, and the equation with its reference.
-/
module

public import proofs.«01_k».proof.Defs
public import proofs.«01_k».proof.Proof.Gen.Kernel3.Frame
public import proofs.«01_k».proof.Proof.FusedValue
public import proofs.«01_k».proof.Proof.FusedRef
public import Idealize.ShloMosaic.Lib.Quiescent

@[expose] public section

noncomputable section

namespace Cert.Fused

open Idealize.ShloMosaic Idealize.ShloMosaic.TcCoe Idealize.SL.Sem

theorem frame_kernel : Cert.quiescent_Kernel3 := fun m ρ _ => Cert.Kernel3.Gen.frame m ρ

theorem frame_kernelIdeal : Cert.quiescent_Kernel3Ideal := fun m ρ _ => Cert.Kernel3Ideal.Gen.frame m ρ

theorem frame_reference : Cert.quiescent_Reference3Ideal := fun m ρ _ =>
  (θ_run Cert.Reference3Ideal.defs _ _).mono
    (fun r h => ⟨fun c => (h c).2, sem_eq_zero_of_no_sems (by decide) r.2⟩)
    (Cert.Reference3Ideal.Value.run (F := Ideal) m ρ)

/-- Both programs compute the feed-forward formula of the residual rows with the projected attention rows added. -/
theorem algebraic : Cert.algebraic_Kernel3Ideal_Reference3Ideal := by
  intro m ρ m' ρ' _ hagree
  refine ⟨fun c => Cert.Kernel3Ideal.Ffn.result m c, ?_, ?_⟩
  · exact (θ_run Cert.Kernel3Ideal.defs _ _).mono
      (fun _ h c => ⟨(h c).1.trans (Cert.Kernel3Ideal.Ffn.final m c), (h c).2⟩)
      (Cert.Kernel3Ideal.Value.run_blocks m ρ)
  · refine (θ_run Cert.Reference3Ideal.defs _ _).mono (fun _ h c => ⟨(h c).1.trans ?_, (h c).2⟩)
      (Cert.Reference3Ideal.Value.run (F := Ideal) m' ρ')
    obtain ⟨h0, h1, h2, h3, h4, h5, h6⟩ := hagree c
    funext i
    obtain ⟨r, j, rfl⟩ : ∃ (r : Fin 16384) (j : Fin 1024), i = ix2 r j :=
      ⟨i 0, i 1, funext fun a => match a with | ⟨0, _⟩ => rfl | ⟨1, _⟩ => rfl⟩
    exact Cert.Reference3Ideal.Ffn.res_apply m' c _ _ _ _ _ _ _ h0 h1 h2 h3 h4 h5 h6 r j

end Cert.Fused

end
-- ==== Proof.lean ====
module

public import proofs.«01_k».proof.Defs
public import proofs.«01_k».proof.Proof.AttnClaims
public import proofs.«01_k».proof.Proof.FfnClaims
public import proofs.«01_k».proof.Proof.FusedClaims

@[expose] public section

noncomputable section

namespace Cert.Proof

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts, Cert.Attn.pre_facts,
  Cert.Attn.frame_kernel, Cert.Attn.frame_kernelIdeal, Cert.Attn.frame_kernelIdeal_pre,
  Cert.Attn.frame_reference, Cert.Attn.frame_reference_pre,
  Cert.Ffn.frame_kernel, Cert.Ffn.frame_kernelIdeal, Cert.Ffn.frame_reference,
  Cert.Fused.frame_kernel, Cert.Fused.frame_kernelIdeal, Cert.Fused.frame_reference,
  trivial, Cert.Attn.algebraic, trivial, Cert.Ffn.algebraic, trivial, Cert.Fused.algebraic⟩

end Cert.Proof

end
